-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 1024]⟩ ⟨3, ![2, 512, 1024]⟩ (Layout.meshBlock [2, 2, 2] ![[2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![512, 1024]⟩ (Layout.meshBlock [2, 2, 2] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S512x512 : Shape := ⟨2, ![512, 512]⟩
abbrev S352x512 : Shape := ⟨2, ![352, 512]⟩
abbrev S160x512 : Shape := ⟨2, ![160, 512]⟩
abbrev S3 : Shape := ⟨1, ![3]⟩
abbrev S2 : Shape := ⟨1, ![2]⟩
abbrev S_ : Shape := ⟨0, ![]⟩
abbrev S1x160x512 : Shape := ⟨3, ![1, 160, 512]⟩
abbrev S1 : Shape := ⟨1, ![1]⟩
abbrev S80x512 : Shape := ⟨2, ![80, 512]⟩
abbrev S1x192x512 : Shape := ⟨3, ![1, 192, 512]⟩
abbrev S192x512 : Shape := ⟨2, ![192, 512]⟩
abbrev S1x512x512 : Shape := ⟨3, ![1, 512, 512]⟩

abbrev nBuf : Space → Nat
  | .hbm => 2
  | .vmem => 5
  | .smem => 0
  | _ => 0

abbrev bufTy : (tb : Table) → Fin (tcTables nBuf tb) → BufTy
  | .hbm, ⟨0, _⟩ => ⟨S1x512x1024, .f32⟩
  | .hbm, ⟨1, _⟩ => ⟨S512x512, .f32⟩
  | .local _ .vmem, ⟨0, _⟩ => ⟨S1x512x1024, .f32⟩
  | .local _ .vmem, ⟨1, _⟩ => ⟨S512x512, .f32⟩
  | .local _ .vmem, ⟨2, _⟩ => ⟨S352x512, .bf16⟩
  | .local _ .vmem, ⟨3, _⟩ => ⟨S352x512, .bf16⟩
  | .local _ .vmem, ⟨4, _⟩ => ⟨S160x512, .bf16⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v12 : BitVec 32 := Scalar.muli v2 c4_i32_6
  let v13 : BitVec 32 := Scalar.addi c0_i32 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_8 : BitVec 32 := 1#32
  let v16 : BitVec 32 := Scalar.muli v9 c1_i32_8
  let v17 : BitVec 32 := Scalar.addi v15 v16
  v17.toNat
def k0_dev2 (d0 : Dev nD) : Nat :=
  let c0_i32_11 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_10 : BitVec 32 := 4#32
  let v18 : BitVec 32 := Scalar.muli v10 c4_i32_10
  let v19 : BitVec 32 := Scalar.addi c0_i32_11 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v20 : BitVec 32 := Scalar.muli v5 c2_i32_12
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_13 : BitVec 32 := 1#32
  let v22 : BitVec 32 := Scalar.muli v8 c1_i32_13
  let v23 : BitVec 32 := Scalar.addi v21 v22
  v23.toNat
def k0_off1 (d0 : Dev nD) : Fin 3 → Nat :=
  let c0 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c160_i32 : BitVec 32 := 160#32
  let v26 : BitVec 32 := Scalar.muli v2 c160_i32
  let v27 : Index := Scalar.indexCast v26
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_14 v8
  let c512_i32 : BitVec 32 := 512#32
  let v25 : BitVec 32 := Scalar.muli v24 c512_i32
  let v28 : Index := Scalar.indexCast v25
  ![0, v27.toNat, v28.toNat]
def k0_dev3 (d0 : Dev nD) : Nat :=
  let c0_i32_21 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_20 : BitVec 32 := 4#32
  let v35 : BitVec 32 := Scalar.muli v2 c4_i32_20
  let v36 : BitVec 32 := Scalar.addi c0_i32_21 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v37 : BitVec 32 := Scalar.muli v5 c2_i32_22
  let v38 : BitVec 32 := Scalar.addi v36 v37
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_23 : BitVec 32 := 1#32
  let v39 : BitVec 32 := Scalar.muli v9 c1_i32_23
  let v40 : BitVec 32 := Scalar.addi v38 v39
  v40.toNat
def k0_dev4 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_30 : BitVec 32 := 4#32
  let v47 : BitVec 32 := Scalar.muli v2 c4_i32_30
  let v48 : BitVec 32 := Scalar.addi c0_i32_31 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_32 : BitVec 32 := 2#32
  let v49 : BitVec 32 := Scalar.muli v5 c2_i32_32
  let v50 : BitVec 32 := Scalar.addi v48 v49
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_33 : BitVec 32 := 1#32
  let v51 : BitVec 32 := Scalar.muli v9 c1_i32_33
  let v52 : BitVec 32 := Scalar.addi v50 v51
  v52.toNat
def k0_off2 (d0 : Dev nD) : Fin 3 → Nat :=
  let c0_37 : Index := 0#32
  let c320 : Index := 320#32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_14 v8
  let c512_i32 : BitVec 32 := 512#32
  let v25 : BitVec 32 := Scalar.muli v24 c512_i32
  let v59 : Index := Scalar.indexCast v25
  ![0, 320, v59.toNat]
def k0_dev5 (d0 : Dev nD) : Nat :=
  let c0_i32_42 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_41 : BitVec 32 := 4#32
  let v66 : BitVec 32 := Scalar.muli v2 c4_i32_41
  let v67 : BitVec 32 := Scalar.addi c0_i32_42 v66
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_43 : BitVec 32 := 2#32
  let v68 : BitVec 32 := Scalar.muli v5 c2_i32_43
  let v69 : BitVec 32 := Scalar.addi v67 v68
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_44 : BitVec 32 := 1#32
  let v70 : BitVec 32 := Scalar.muli v9 c1_i32_44
  let v71 : BitVec 32 := Scalar.addi v69 v70
  v71.toNat
def k0_off3 (d0 : Dev nD) : Fin 3 → Nat :=
  let c0_50 : Index := 0#32
  let c0_51 : Index := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_49 : BitVec 32 := 512#32
  let v78 : BitVec 32 := Scalar.muli v8 c512_i32_49
  let v79 : Index := Scalar.indexCast v78
  ![0, 0, v79.toNat]
def k0_dev6 (d0 : Dev nD) : Nat :=
  let c0_i32_74 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_73 : BitVec 32 := 4#32
  let v97 : BitVec 32 := Scalar.muli v10 c4_i32_73
  let v98 : BitVec 32 := Scalar.addi c0_i32_74 v97
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_75 : BitVec 32 := 2#32
  let v99 : BitVec 32 := Scalar.muli v5 c2_i32_75
  let v100 : BitVec 32 := Scalar.addi v98 v99
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_76 : BitVec 32 := 1#32
  let v101 : BitVec 32 := Scalar.muli v8 c1_i32_76
  let v102 : BitVec 32 := Scalar.addi v100 v101
  v102.toNat
def k0_dev7 (d0 : Dev nD) : Nat :=
  let c0_i32_101 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_100 : BitVec 32 := 4#32
  let v123 : BitVec 32 := Scalar.muli v10 c4_i32_100
  let v124 : BitVec 32 := Scalar.addi c0_i32_101 v123
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_102 : BitVec 32 := 2#32
  let v125 : BitVec 32 := Scalar.muli v5 c2_i32_102
  let v126 : BitVec 32 := Scalar.addi v124 v125
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_103 : BitVec 32 := 1#32
  let v127 : BitVec 32 := Scalar.muli v8 c1_i32_103
  let v128 : BitVec 32 := Scalar.addi v126 v127
  v128.toNat
def k0_off4 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c160_i32 : BitVec 32 := 160#32
  let v26 : BitVec 32 := Scalar.muli v2 c160_i32
  let v149 : Index := Scalar.indexCast v26
  let c0_125 : Index := 0#32
  ![v149.toNat, 0]
def k0_off5 (d0 : Dev nD) : Fin 2 → Nat :=
  let c1_i32_169 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v191 : BitVec 32 := Scalar.subi c1_i32_169 v2
  let c160_i32_170 : BitVec 32 := 160#32
  let v192 : BitVec 32 := Scalar.muli v191 c160_i32_170
  let v193 : Index := Scalar.indexCast v192
  let c0_171 : Index := 0#32
  ![v193.toNat, 0]
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x512x1024 : Shape := ⟨3, ![2, 512, 1024]⟩
abbrev S_ : Shape := ⟨0, ![]⟩
abbrev S512x1024 : Shape := ⟨2, ![512, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S_, .f32⟩
  | .hbm, ⟨2, _⟩ => ⟨S512x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.IdealSched.lean ====
/-
The exchange protocol of the reduce-scatter kernel at the 2x2x2 mesh, over the program `KernelIdeal`, generic in the
float instance.

A device `c` is numbered `4 x + 2 y + z`. Two partners matter: `pz c` (the other `z`) and `px c` (the other `x`). Each
device signals both partners' barrier cells, waits for two units on its own, sends three windows of its truncated half
block to `pz c`, forwards the first two windows that `pz c` sent it to `px c`, and adds what it received to its own half.

Cells of a device, by number: 0 the barrier; 1, 2, 3 the departures towards `pz c`; 4, 5, 6 the arrivals from `pz c`;
7, 8 the departures towards `px c`; 9, 10 the arrivals from `px c`. Every cell has one round. This module states the
partners, the cells, the contents of every landing, the schedule, what each device owes at launch and the levels.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.Tactic

@[expose] public section

noncomputable section

namespace Cert.KernelIdeal.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds and the exchange's (two duty names) -/

/-- The rounds of the exchange, with two names of duties, -/
abbrev UB : Type := URounds (GSem nD τ sig) Bool
/-- beside the pipeline's. -/
abbrev UU : Type := UR sig nD τ × UB

local notation "𝕄" => MT nD τ sig Unit (Elt F) ℕ UU ℕ

/-- Where the pipeline's rounds sit in the whole algebra, -/
abbrev EP : Emb (UR sig nD τ) (MT nD τ sig Unit (Elt F) ℕ UU ℕ) := embL
/-- and where the exchange's sit. -/
abbrev ER : Emb UB (MT nD τ sig Unit (Elt F) ℕ UU ℕ) := embR

variable (m : (ℓ : Loc nD τ sig) → Buf (Elt F) ℓ) (ρ : Dev nD → PrngReg)

/-- The state at launch: memory `m`, every counter zero, any generator registers. -/
def s₀ : MemSt nD τ sig (Elt F) := ⟨m, fun _ => 0, ρ⟩

/-! ## The partners -/

set_option backward.proofsInPublic true in
/-- The device with the other `z`. -/
def pz (c : Dev nD) : Dev nD := ⟨(4 * (c.val / 4) + 2 * ((c.val / 2) % 2) + 1) - c.val % 2, by have := c.isLt; simp only [nD] at this ⊢; omega⟩
set_option backward.proofsInPublic true in
/-- The device with the other `x`. -/
def px (c : Dev nD) : Dev nD := ⟨(2 * ((c.val / 2) % 2) + c.val % 2 + 4) - 4 * (c.val / 4), by have := c.isLt; simp only [nD] at this ⊢; omega⟩

/-- Both partner maps are their own inverses, -/
theorem pz_pz (c : Dev nD) : pz (pz c) = c := by revert c; decide
/-- in `x` as in `z`, -/
theorem px_px (c : Dev nD) : px (px c) = c := by revert c; decide
/-- and they commute. -/
theorem pz_px (c : Dev nD) : pz (px c) = px (pz c) := by revert c; decide

/-- Both signals and all transfers name the partners. -/
theorem dev1_eq (c : Dev nD) : (⟨k0_dev1 c, k0_dev1_lt c⟩ : Dev nD) = pz c := Fin.ext (k0_dev1_eq c)
/-- The second signal goes to the partner in `x`. -/
theorem dev2_eq (c : Dev nD) : (⟨k0_dev2 c, k0_dev2_lt c⟩ : Dev nD) = px c := Fin.ext (k0_dev2_eq c)
/-- The first transfer goes to the partner in `z`. -/
theorem dev3_eq (c : Dev nD) : (⟨k0_dev3 c, k0_dev3_lt c⟩ : Dev nD) = pz c := Fin.ext (k0_dev3_eq c)
/-- So does the second, -/
theorem dev4_eq (c : Dev nD) : (⟨k0_dev4 c, k0_dev4_lt c⟩ : Dev nD) = pz c := Fin.ext (k0_dev4_eq c)
/-- and the third. -/
theorem dev5_eq (c : Dev nD) : (⟨k0_dev5 c, k0_dev5_lt c⟩ : Dev nD) = pz c := Fin.ext (k0_dev5_eq c)
/-- The first forward goes to the partner in `x`. -/
theorem dev6_eq (c : Dev nD) : (⟨k0_dev6 c, k0_dev6_lt c⟩ : Dev nD) = px c := Fin.ext (k0_dev6_eq c)
/-- So does the second. -/
theorem dev7_eq (c : Dev nD) : (⟨k0_dev7 c, k0_dev7_lt c⟩ : Dev nD) = px c := Fin.ext (k0_dev7_eq c)

/-- The partner maps as permutations of the mesh. -/
def zEquiv : Dev nD ≃ Dev nD := ⟨pz, pz, pz_pz, pz_pz⟩
/-- The other `x` as a permutation. -/
def xEquiv : Dev nD ≃ Dev nD := ⟨px, px, px_px, px_px⟩

/-! ## Buffers, windows and cells -/

/-- The buffers of a device, whole: the argument, the result, the send, landing and forwarding buffers. -/
abbrev xM : Memref sig .tc .vmem S1x512x1024 .f32 := Memref.whole cc0_stg0_0
abbrev oM : Memref sig .tc .vmem S512x512 .f32 := Memref.whole cc0_stg1_0
abbrev sM : Memref sig .tc .vmem S352x512 .bf16 := Memref.whole cc0_scratch0
abbrev rM : Memref sig .tc .vmem S352x512 .bf16 := Memref.whole cc0_scratch1
abbrev qM : Memref sig .tc .vmem S160x512 .bf16 := Memref.whole cc0_scratch2

/-- The rows 0..79, 80..159, 160..351 and 0..159 of a 352-row buffer. -/
abbrev R0 : Rect S352x512 := Rect.unit (s := S352x512) ![0, 0] S80x512.size inb_S352x512_S80x512_0_0
abbrev R1 : Rect S352x512 := Rect.unit (s := S352x512) ![80, 0] S80x512.size inb_S352x512_S80x512_80_0
abbrev R2 : Rect S352x512 := Rect.unit (s := S352x512) ![160, 0] S192x512.size inb_S352x512_S192x512_160_0
abbrev RA : Rect S352x512 := Rect.unit (s := S352x512) ![0, 0] S160x512.size inb_S352x512_S160x512_0_0
/-- The rows 0..79, 80..159 and all rows of the 160-row buffer. -/
abbrev Q0 : Rect S160x512 := Rect.unit (s := S160x512) ![0, 0] S80x512.size inb_S160x512_S80x512_0_0
abbrev Q1 : Rect S160x512 := Rect.unit (s := S160x512) ![80, 0] S80x512.size inb_S160x512_S80x512_80_0
abbrev QA : Rect S160x512 := Rect.unit (s := S160x512) ![0, 0] S160x512.size inb_S160x512_S160x512_0_0

abbrev sW0 : Memref sig .tc .vmem S80x512 .bf16 := sM.slice R0 (fun _ => rfl)
abbrev sW1 : Memref sig .tc .vmem S80x512 .bf16 := sM.slice R1 (fun _ => rfl)
abbrev sW2 : Memref sig .tc .vmem S192x512 .bf16 := sM.slice R2 (fun _ => rfl)
abbrev rW0 : Memref sig .tc .vmem S80x512 .bf16 := rM.slice R0 (fun _ => rfl)
abbrev rW1 : Memref sig .tc .vmem S80x512 .bf16 := rM.slice R1 (fun _ => rfl)
abbrev rW2 : Memref sig .tc .vmem S192x512 .bf16 := rM.slice R2 (fun _ => rfl)
abbrev qW0 : Memref sig .tc .vmem S80x512 .bf16 := qM.slice Q0 (fun _ => rfl)
abbrev qW1 : Memref sig .tc .vmem S80x512 .bf16 := qM.slice Q1 (fun _ => rfl)

/-- The runtime's barrier semaphore and the ten transfer semaphores. -/
abbrev barS : Sem sig := (SemArray.scalar (sig.barrier 0 rfl) : Sems sig S_).sem
abbrev zs0 : DmaSem sig := ((cc0_scratch3.slice (Rect.unit (s := S3) ![0] S1.size inb_S3_S1_0)).squeeze S_ squeezes_S1_S_ : DmaSems sig S_).sem
abbrev zs1 : DmaSem sig := ((cc0_scratch3.slice (Rect.unit (s := S3) ![1] S1.size inb_S3_S1_1)).squeeze S_ squeezes_S1_S_ : DmaSems sig S_).sem
abbrev zs2 : DmaSem sig := ((cc0_scratch3.slice (Rect.unit (s := S3) ![2] S1.size inb_S3_S1_2)).squeeze S_ squeezes_S1_S_ : DmaSems sig S_).sem
abbrev zr0 : DmaSem sig := ((cc0_scratch4.slice (Rect.unit (s := S3) ![0] S1.size inb_S3_S1_0)).squeeze S_ squeezes_S1_S_ : DmaSems sig S_).sem
abbrev zr1 : DmaSem sig := ((cc0_scratch4.slice (Rect.unit (s := S3) ![1] S1.size inb_S3_S1_1)).squeeze S_ squeezes_S1_S_ : DmaSems sig S_).sem
abbrev zr2 : DmaSem sig := ((cc0_scratch4.slice (Rect.unit (s := S3) ![2] S1.size inb_S3_S1_2)).squeeze S_ squeezes_S1_S_ : DmaSems sig S_).sem
abbrev xs0 : DmaSem sig := ((cc0_scratch5.slice (Rect.unit (s := S2) ![0] S1.size inb_S2_S1_0)).squeeze S_ squeezes_S1_S_ : DmaSems sig S_).sem
abbrev xs1 : DmaSem sig := ((cc0_scratch5.slice (Rect.unit (s := S2) ![1] S1.size inb_S2_S1_1)).squeeze S_ squeezes_S1_S_ : DmaSems sig S_).sem
abbrev xr0 : DmaSem sig := ((cc0_scratch6.slice (Rect.unit (s := S2) ![0] S1.size inb_S2_S1_0)).squeeze S_ squeezes_S1_S_ : DmaSems sig S_).sem
abbrev xr1 : DmaSem sig := ((cc0_scratch6.slice (Rect.unit (s := S2) ![1] S1.size inb_S2_S1_1)).squeeze S_ squeezes_S1_S_ : DmaSems sig S_).sem

/-- The eleven cells of a device, by number. -/
abbrev csem : Fin 11 → SemLoc sig := fun
  | 0 => .reg barS | 1 => .dma zs0 | 2 => .dma zs1 | 3 => .dma zs2 | 4 => .dma zr0 | 5 => .dma zr1 | 6 => .dma zr2
  | 7 => .dma xs0 | 8 => .dma xs1 | 9 => .dma xr0 | 10 => .dma xr1
/-- The ten of them scoped to the kernel. -/
abbrev osem : Fin 10 → SemLoc sig := fun
  | 0 => .dma zs0 | 1 => .dma zs1 | 2 => .dma zs2 | 3 => .dma zr0 | 4 => .dma zr1 | 5 => .dma zr2
  | 6 => .dma xs0 | 7 => .dma xs1 | 8 => .dma xr0 | 9 => .dma xr1
/-- The cell of a device and a number. -/
abbrev kcell (ck : Dev nD × Fin 11) : GSem nD τ sig := ((ck.1 : Thread nD τ), csem ck.2)

/-- The number of a semaphore among the eleven, if it is one. -/
def kidx (s : SemLoc sig) : Option (Fin 11) := (List.finRange 11).find? fun k => csem k = s

/-- A semaphore of the eleven has its own number; -/
theorem kidx_csem : ∀ k : Fin 11, kidx (csem k) = some k := by decide
/-- so the eleven are different, -/
theorem csem_injective : Function.Injective csem := fun a b h =>
  Option.some.inj (by rw [← kidx_csem a, ← kidx_csem b, h])

/-- and so are the cells of all devices. -/
theorem kcell_injective : Function.Injective (kcell : Dev nD × Fin 11 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- What a transfer of 80 rows credits. -/
abbrev N8 : ℕ := rW0.view.dmaCredit
/-- What a transfer of 192 rows credits. -/
abbrev N19 : ℕ := rW2.view.dmaCredit
/-- A transfer of 80 rows credits something, -/
theorem N8_pos : 0 < N8 := View.dmaCredit_pos _ (by decide)
/-- and so does one of 192 rows. -/
theorem N19_pos : 0 < N19 := View.dmaCredit_pos _ (by decide)

/-! ## Contents -/

/-- Device `c`'s block of `x`, as staged. -/
def xstg (c : Dev nD) : (cc0_stg0_0 : Ref sig .tc).ty.Contents (Elt F) :=
  (win0_0.blk (0 : Fin 1)).view.read (Elt F) ((s₀ m ρ).mem ((c : Thread nD τ).loc main_arg0))

/-- What device `c` sends: the truncated rows of its block that its partner's half needs. -/
def sendC (c : Dev nD) : (cc0_scratch0 : Ref sig .tc).ty.Contents (Elt F) :=
  (sM.access R2 : View sig .tc _ _ _).write (Elt F)
    ((sM.access RA : View sig .tc _ _ _).write (Elt F) (m ((c : Thread nD τ).loc cc0_scratch0))
      (k0_pay3 (k0_pay2 (xM.view.readAt (Elt F) (Rect.unit (s := S1x512x1024) (k0_off1 c) S1x160x512.size (k0_off1_inb c)).toLoadRect (xstg m ρ c)))) Finset.univ)
    (k0_pay5 (k0_pay4 (xM.view.readAt (Elt F) (Rect.unit (s := S1x512x1024) (k0_off2 c) S1x192x512.size (k0_off2_inb c)).toLoadRect (xstg m ρ c)))) Finset.univ

/-- What device `c` receives from `pz c`: what that device sent. -/
def recvC (c : Dev nD) : (cc0_scratch1 : Ref sig .tc).ty.Contents (Elt F) := sendC m ρ (pz c)

/-- What device `c` receives from `px c`: the first 160 rows of what that device received. -/
def fwdC (c : Dev nD) : (cc0_scratch2 : Ref sig .tc).ty.Contents (Elt F) :=
  (rM.access RA : View sig .tc _ _ _).read (Elt F) (recvC m ρ (px c))

/-- The three windows of the result buffer: the rows of the device itself, those of its partner in `x`, and the last 192. -/
abbrev RO4 (c : Dev nD) : Rect S512x512 := Rect.unit (s := S512x512) (k0_off4 c) S160x512.size (k0_off4_inb c)
abbrev RO5 (c : Dev nD) : Rect S512x512 := Rect.unit (s := S512x512) (k0_off5 c) S160x512.size (k0_off5_inb c)
abbrev RO3 : Rect S512x512 := Rect.unit (s := S512x512) ![320, 0] S192x512.size inb_S512x512_S192x512_320_0

/-- The result buffer of device `c` after its own half is copied in, -/
def out1 (c : Dev nD) : (cc0_stg1_0 : Ref sig .tc).ty.Contents (Elt F) :=
  k0_pay6 (xM.view.readAt (Elt F) (Rect.unit (s := S1x512x1024) (k0_off3 c) S1x512x512.size (k0_off3_inb c)).toLoadRect (xstg m ρ c))
/-- after its first 160 rows are added, -/
def out2 (c : Dev nD) : (cc0_stg1_0 : Ref sig .tc).ty.Contents (Elt F) :=
  (oM.access (RO4 c) : View sig .tc _ _ _).write (Elt F) (out1 m ρ c)
    (k0_pay7 (oM.view.readAt (Elt F) (RO4 c).toLoadRect (out1 m ρ c)) (rM.view.readAt (Elt F) RA.toLoadRect (recvC m ρ c))) Finset.univ
/-- after the last 192 rows are added, -/
def out3 (c : Dev nD) : (cc0_stg1_0 : Ref sig .tc).ty.Contents (Elt F) :=
  (oM.access RO3 : View sig .tc _ _ _).write (Elt F) (out2 m ρ c)
    (k0_pay8 (oM.view.readAt (Elt F) RO3.toLoadRect (out2 m ρ c)) (rM.view.readAt (Elt F) R2.toLoadRect (recvC m ρ c))) Finset.univ
/-- and after the forwarded rows are added: the kernel's result. -/
def outAt (c : Dev nD) : (cc0_stg1_0 : Ref sig .tc).ty.Contents (Elt F) :=
  (oM.access (RO5 c) : View sig .tc _ _ _).write (Elt F) (out3 m ρ c)
    (k0_pay1 (oM.view.readAt (Elt F) (RO5 c).toLoadRect (out3 m ρ c)) (qM.view.readAt (Elt F) QA.toLoadRect (fwdC m ρ c))) Finset.univ

/-- Elements `S` of a device's buffer `b`, held at a share. -/
abbrev pw (c : Dev nD) (b : Ref sig .tc) (S : Finset (Idx ((c : Thread nD τ).loc b))) (q : PosShare TreeShare) (f : Buf (Elt F) ((c : Thread nD τ).loc b)) : sProp 𝕄 :=
  (c : Thread nD τ).loc b ↦[S]{q} f

/-! ## The schedule -/

/-- What each cell's round hands its device. -/
def pay (c : Dev nD) : Fin 11 → Bool → sProp 𝕄
  | 0, false => iprop((∃ f, pw (pz c) cc0_scratch1 R0.set fullShare f) ∗ (∃ f, pw (pz c) cc0_scratch1 R1.set fullShare f) ∗ (∃ f, pw (pz c) cc0_scratch1 R2.set fullShare f))
  | 0, true => iprop((∃ f, pw (px c) cc0_scratch2 Q0.set fullShare f) ∗ (∃ f, pw (px c) cc0_scratch2 Q1.set fullShare f))
  | 1, _ => pw c cc0_scratch0 R0.set fullShare (sendC m ρ c)
  | 2, _ => pw c cc0_scratch0 R1.set fullShare (sendC m ρ c)
  | 3, _ => pw c cc0_scratch0 R2.set fullShare (sendC m ρ c)
  | 4, _ => pw c cc0_scratch1 R0.set fullShare (recvC m ρ c)
  | 5, _ => pw c cc0_scratch1 R1.set fullShare (recvC m ρ c)
  | 6, _ => pw c cc0_scratch1 R2.set fullShare (recvC m ρ c)
  | 7, _ => pw c cc0_scratch1 R0.set fullShare.left (recvC m ρ c)
  | 8, _ => pw c cc0_scratch1 R1.set fullShare.left (recvC m ρ c)
  | 9, _ => pw c cc0_scratch2 Q0.set fullShare (fwdC m ρ c)
  | 10, _ => pw c cc0_scratch2 Q1.set fullShare (fwdC m ρ c)

omit [FloatOps F] in
/-- Rows with some contents can be kept in an invariant. -/
theorem pwEx_storable (c : Dev nD) (b : Ref sig .tc) (S : Finset (Idx ((c : Thread nD τ).loc b))) :
    BI.Storable (upEmb : UEmb _ 𝕄) (iprop(∃ f, pw (F := F) c b S fullShare f) : sProp 𝕄) := inferInstance

/-- Every payload can be kept in an invariant. -/
instance pay_storable (c : Dev nD) (k : Fin 11) (d : Bool) : BI.Storable (upEmb : UEmb _ 𝕄) (pay (F := F) m ρ c k d) := by
  fin_cases k <;> cases d
  case «0».false =>
    haveI h0 := pwEx_storable (F := F) (pz c) cc0_scratch1 R0.set
    haveI h1 := pwEx_storable (F := F) (pz c) cc0_scratch1 R1.set
    haveI h2 := pwEx_storable (F := F) (pz c) cc0_scratch1 R2.set
    haveI h12 : BI.Storable (upEmb : UEmb _ 𝕄) (iprop((∃ f, pw (F := F) (pz c) cc0_scratch1 R1.set fullShare f) ∗ (∃ f, pw (F := F) (pz c) cc0_scratch1 R2.set fullShare f))) := BI.Storable.sep _ _ _
    exact BI.Storable.sep _ _ _
  case «0».true =>
    haveI h0 := pwEx_storable (F := F) (px c) cc0_scratch2 Q0.set
    haveI h1 := pwEx_storable (F := F) (px c) cc0_scratch2 Q1.set
    exact BI.Storable.sep _ _ _
  all_goals (dsimp only [pay]; infer_instance)

/-- The units of each cell's duty, and what it expects in all. -/
def amt : Fin 11 → ℕ := ![1, N8, N8, N19, N8, N8, N19, N8, N8, N8, N8]
/-- What a cell collects in its round. -/
def tot : Fin 11 → ℕ := ![2, N8, N8, N19, N8, N8, N19, N8, N8, N8, N8]
/-- Every duty pays something. -/
theorem amt_pos (k : Fin 11) : 0 < amt k := by
  fin_cases k <;> first | exact Nat.one_pos | exact N8_pos | exact N19_pos

/-- One round: the barrier cell has two duties of a unit, `false` paid by `pz c` and `true` by `px c`; every other cell one. -/
def ringRd : Rounds.Schedule (GSem nD τ sig) Bool 𝕄 where
  duties g r := if r = 0 ∧ g.1.2 = .tc then (match kidx g.2 with | none => ∅ | some k => if k = 0 then Finset.univ else {false}) else ∅
  unitless _ := False
  amount g _ _ := match kidx g.2 with | none => 1 | some k => amt k
  payload g _ d := match kidx g.2 with | none => iprop(emp) | some k => pay m ρ g.1.1 k d
  amount_pos g _ _ _ := by
    cases kidx g.2 with
    | none => exact Nat.one_pos
    | some k => exact amt_pos k

/-- The schedule's payloads can be kept in an invariant. -/
instance ringRd_payload_storable (g : GSem nD τ sig) (r : ℕ) (d : Bool) :
    BI.Storable (upEmb : UEmb _ 𝕄) ((ringRd (F := F) m ρ).payload g r d) := by
  dsimp only [ringRd]
  cases kidx g.2 <;> infer_instance

omit [FloatOps F] in
/-- The duties of a cell: both names at the barrier, one elsewhere. -/
theorem dutySet_eq [FloatOps F] (c : Dev nD) (k : Fin 11) : (ringRd (F := F) m ρ).duties (kcell (c, k)) 0 = if k = 0 then Finset.univ else {false} := by
  dsimp only [ringRd]; rw [if_pos ⟨rfl, rfl⟩, kidx_csem]
/-- After the first round there are none. -/
theorem duties_later (g : GSem nD τ sig) : ∀ r, 1 ≤ r → (ringRd (F := F) m ρ).duties g r = ∅ :=
  fun r hr => by dsimp only [ringRd]; rw [if_neg fun h => by omega]
/-- The schedule's amount at a cell, -/
theorem amount_eq (c : Dev nD) (k : Fin 11) (r : ℕ) (d : Bool) : (ringRd (F := F) m ρ).amount (kcell (c, k)) r d = amt k := by
  dsimp only [ringRd]; rw [kidx_csem]
/-- and its payload. -/
theorem payload_eq (c : Dev nD) (k : Fin 11) (r : ℕ) (d : Bool) : (ringRd (F := F) m ρ).payload (kcell (c, k)) r d = pay m ρ c k d := by
  dsimp only [ringRd]; rw [kidx_csem]
/-- Every cell has the duty `false`, -/
theorem mem_false (c : Dev nD) (k : Fin 11) : false ∈ (ringRd (F := F) m ρ).duties (kcell (c, k)) 0 := by
  rw [dutySet_eq]; split
  · exact Finset.mem_univ _
  · exact Finset.mem_singleton_self _
/-- and the barrier cell the duty `true`. -/
theorem mem_true (c : Dev nD) : true ∈ (ringRd (F := F) m ρ).duties (kcell (c, 0)) 0 := by
  rw [dutySet_eq, if_pos rfl]; exact Finset.mem_univ _

/-- A round expects the total of its duties. -/
theorem expect_eq (c : Dev nD) (k : Fin 11) : (ringRd (F := F) m ρ).expect (kcell (c, k)) 0 = tot k := by
  unfold Schedule.expect Schedule.amountOf
  rw [dutySet_eq, Finset.sum_congr rfl fun d _ => amount_eq m ρ c k 0 d]
  by_cases h : k = 0
  · subst h; rw [if_pos rfl]; rfl
  · rw [if_neg h, Finset.sum_singleton]
    fin_cases k <;> first | exact absurd rfl h | rfl

/-- What a device gets of its barrier's round: both partners' buffers. -/
theorem rest_bar (c : Dev nD) : bigSep ((ringRd (F := F) m ρ).duties (kcell (c, 0)) 0 \ ∅) (fun d => (ringRd (F := F) m ρ).payload (kcell (c, 0)) 0 d)
    = iprop(pay m ρ c 0 false ∗ pay m ρ c 0 true) := by
  rw [Finset.sdiff_empty, dutySet_eq, if_pos rfl, bigSep_univ_eq_bigSepL [false, true] (by decide) (by decide), bigSepL_cons_cons, bigSepL_singleton,
    payload_eq, payload_eq]
  rfl
/-- What it gets of any other cell's. -/
theorem rest_one (c : Dev nD) (k : Fin 11) (h : k ≠ 0) : bigSep ((ringRd (F := F) m ρ).duties (kcell (c, k)) 0 \ ∅) (fun d => (ringRd (F := F) m ρ).payload (kcell (c, k)) 0 d)
    = pay m ρ c k false := by
  rw [Finset.sdiff_empty, dutySet_eq, if_neg h, bigSep_singleton, payload_eq]

/-! ## What each device owes at launch, and the levels -/

/-- What is still owed before the last forward, -/
def OX1 (c : Dev nD) : CellTallies nD τ sig Unit := tallyAt (kcell (px c, 10)) () N8
/-- before the first forward, -/
def OX0 (c : Dev nD) : CellTallies nD τ sig Unit := OX1 c + tallyAt (kcell (px c, 9)) () N8
/-- before the third send, -/
def OZ2 (c : Dev nD) : CellTallies nD τ sig Unit := OX0 c + tallyAt (kcell (pz c, 6)) () N19
/-- before the second send, -/
def OZ1 (c : Dev nD) : CellTallies nD τ sig Unit := OZ2 c + tallyAt (kcell (pz c, 5)) () N8
/-- before the first send, -/
def OZ0 (c : Dev nD) : CellTallies nD τ sig Unit := OZ1 c + tallyAt (kcell (pz c, 4)) () N8
/-- and before the second signal. -/
def OB1 (c : Dev nD) : CellTallies nD τ sig Unit := OZ0 c + tallyAt (kcell (px c, 0)) () 1
/-- At launch: the two forwards, the three sends and both partners' barrier units, in the order in which they are paid, last first. -/
def O₀ (c : Dev nD) : CellTallies nD τ sig Unit := OB1 c + tallyAt (kcell (pz c, 0)) () 1

/-- The ranks of a cell: one on each core, none elsewhere. -/
def L (g : GSem nD τ sig) : Finset Unit := if g.1.2 = .tc then {()} else ∅
/-- Barrier cells at 1, arrivals from `pz` at 2, arrivals from `px` at 3, departures and the staging cells at 0. -/
def lev : Fin 11 → ℕ := ![1, 0, 0, 0, 2, 2, 2, 0, 0, 3, 3]
/-- The level of a cell. -/
def lv (g : GSem nD τ sig) (_ : Unit) : ℕ := match kidx g.2 with | none => 0 | some k => lev k

/-- Cells of other threads have no rank. -/
theorem L_of_ne (g : GSem nD τ sig) (h : g.1.2 ≠ .tc) : L g = ∅ := if_neg h
/-- The level of a numbered cell. -/
theorem lv_kcell (c : Dev nD) (k : Fin 11) (u : Unit) : lv (kcell (c, k)) u = lev k := by dsimp only [lv]; rw [kidx_csem]

/-- Everything owed sits above level `n`. -/
def Above (n : ℕ) (O : CellTallies nD τ sig Unit) : Prop := ∀ g u, 0 < O g u → g.1.2 = .tc ∧ n < lv g u

/-- A debt at one cell sits above every level below that cell, -/
theorem above_tally {n : ℕ} (c : Dev nD) (k : Fin 11) (N : ℕ) (h : n < lev k) : Above n (tallyAt (kcell (c, k)) () N) := by
  intro g u hg
  rw [tallyAt_apply] at hg
  by_cases h' : g = kcell (c, k) ∧ u = ()
  · rw [h'.1]; exact ⟨rfl, by rw [lv_kcell]; exact h⟩
  · rw [if_neg h'] at hg; exact absurd hg (Nat.lt_irrefl 0)
/-- a sum of debts where both summands do, -/
theorem above_add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0
/-- and no debt anywhere. -/
theorem above_zero (n : ℕ) : Above n 0 := fun g u h => absurd h (Nat.lt_irrefl 0)

/-- The debt of the last forward is above level 2, -/
theorem above_OX1 (c : Dev nD) : Above 2 (OX1 c) := above_tally _ _ _ (by decide)
/-- and that of both forwards too. -/
theorem above_OX0 (c : Dev nD) : Above 2 (OX0 c) := above_add (above_OX1 c) (above_tally _ _ _ (by decide))
/-- What sits above a level sits above a lower one. -/
theorem above_mono {n n' : ℕ} (h : n ≤ n') {O : CellTallies nD τ sig Unit} (hO : Above n' O) : Above n O :=
  fun g u hg => ⟨(hO g u hg).1, lt_of_le_of_lt h (hO g u hg).2⟩
/-- The debts of the sends and forwards are above level 1, -/
theorem above_OZ0 (c : Dev nD) : Above 1 (OZ0 c) :=
  above_add (above_add (above_add (above_mono (by decide) (above_OX0 c)) (above_tally _ _ _ (by decide))) (above_tally _ _ _ (by decide))) (above_tally _ _ _ (by decide))
/-- and all debts of the launch above level 0. -/
theorem above_O₀ (c : Dev nD) : Above 0 (O₀ c) :=
  above_add (above_add (above_mono (by decide) (above_OZ0 c)) (above_tally _ _ _ (by decide))) (above_tally _ _ _ (by decide))

omit [FloatOps F] in
/-- A device may wait on one of its cells while everything it owes sits above that cell. -/
theorem mayWait_of (c : Dev nD) (sm : SemLoc sig) (n : ℕ) (hsm : lv ((c : Thread nD τ), sm) () ≤ n) {O : CellTallies nD τ sig Unit} (hO : Above n O) :
    (levAts L lv : sProp 𝕄) ⊢ MayWait (c : Thread nD τ) sm () O :=
  MayOwe.of_cut (L := L) (lev := lv) n
    (fun p hp => by rw [Finset.mem_singleton.mp hp]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

omit [FloatOps F] in
/-- A device may wait at a cell while everything it owes sits above it. -/
theorem mayWait_cell (c : Dev nD) (k : Fin 11) {O : CellTallies nD τ sig Unit} (hO : Above (lev k) O) :
    (levAts L lv : sProp 𝕄) ⊢ MayWait (c : Thread nD τ) (csem k) () O :=
  mayWait_of c (csem k) (lev k) (le_of_eq (lv_kcell c k ())) hO

end Cert.KernelIdeal.Exch

end
-- ==== Proof.IdealBody.lean ====
/-
The body of the kernel on one device, one rule per effect in program order: from the device's ghost state, its credits
and its buffers to the summed result in its result buffer, every one of its cells closed at zero.
-/
module

public import proofs.«01_k».proof.Proof.IdealSched

@[expose] public section

noncomputable section

namespace Cert.KernelIdeal.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- There are no loop variants. -/
abbrev 𝒱₀ : Variants := Variants.none

/-! ## The rows of the landing buffers -/

/-- The first two windows of a landing buffer do not meet; -/
theorem R01_disj : Disjoint R0.set R1.set := by
  rw [Finset.disjoint_left]
  intro i h h'
  have h0 := (Rect.mem_set_unit.mp h) 0
  have h0' := (Rect.mem_set_unit.mp h') 0
  simp at h0 h0'
  omega
/-- nor do the first 160 rows and the last 192; -/
theorem RA2_disj : Disjoint RA.set R2.set := by
  rw [Finset.disjoint_left]
  intro i h h'
  have h0 := (Rect.mem_set_unit.mp h) 0
  have h0' := (Rect.mem_set_unit.mp h') 0
  simp at h0 h0'
  omega
/-- nor the two windows of the forwarding buffer, -/
theorem Q01_disj : Disjoint Q0.set Q1.set := by
  rw [Finset.disjoint_left]
  intro i h h'
  have h0 := (Rect.mem_set_unit.mp h) 0
  have h0' := (Rect.mem_set_unit.mp h') 0
  simp at h0 h0'
  omega

/-- Rows 0..79 and 80..159 are the rows 0..159, -/
theorem R01_union : R0.set ∪ R1.set = RA.set := by
  ext i
  simp only [Finset.mem_union, Rect.mem_set_unit, Fin.forall_fin_two]
  have h1 : (i 1).val < 512 := (i 1).isLt
  simp
  omega
/-- which with the rows 160..351 are all. -/
theorem RA2_union : RA.set ∪ R2.set = Finset.univ := by
  ext i
  simp only [Finset.mem_union, Rect.mem_set_unit, Fin.forall_fin_two, Finset.mem_univ, iff_true]
  have h0 : (i 0).val < 352 := (i 0).isLt
  have h1 : (i 1).val < 512 := (i 1).isLt
  simp
  omega
/-- which make up all of it. -/
theorem Q01_union : Q0.set ∪ Q1.set = Finset.univ := by
  ext i
  simp only [Finset.mem_union, Rect.mem_set_unit, Fin.forall_fin_two, Finset.mem_univ, iff_true]
  have h0 : (i 0).val < 160 := (i 0).isLt
  have h1 : (i 1).val < 512 := (i 1).isLt
  simp
  omega

omit [FloatOps F] in
/-- Holding two disjoint sets of elements is holding their union. -/
theorem pw_union (c : Dev nD) (b : Ref sig .tc) {S T V : Finset (Idx ((c : Thread nD τ).loc b))} (h : Disjoint S T) (hV : S ∪ T = V)
    (q : PosShare TreeShare) (f : Buf (Elt F) ((c : Thread nD τ).loc b)) :
    (pw c b V q f : sProp 𝕄) = iprop(pw c b S q f ∗ pw c b T q f) := by
  subst hV
  exact Entails.antisymm (pointsTo_union h).1 (pointsTo_union h).2

omit [FloatOps F] in
/-- A full share is its two halves. -/
theorem pw_halves (c : Dev nD) (b : Ref sig .tc) (S : Finset (Idx ((c : Thread nD τ).loc b))) (f : Buf (Elt F) ((c : Thread nD τ).loc b)) :
    (pw c b S fullShare f : sProp 𝕄) = iprop(pw c b S fullShare.left f ∗ pw c b S fullShare.right f) :=
  Entails.antisymm (pointsTo_share (PosShare.mem_left_op_right fullShare)).1 (pointsTo_share (PosShare.mem_left_op_right fullShare)).2

/-- The elements a load or a store through rows of a whole buffer touches are those rows. -/
theorem load_sub (b : Ref sig .tc) (r : Rect b.ty.shape) : (Memref.whole b).view.setOn r.toLoadRect.set ⊆ r.set := by
  show r.toLoadRect.set.map (Function.Embedding.refl _) ⊆ r.set
  rw [Finset.map_refl]
/-- A store through a rectangle touches only its rows. -/
theorem store_sub (b : Ref sig .tc) (r : Rect b.ty.shape) : ((Memref.whole b).access r : View sig .tc _ _ _).setOn Finset.univ ⊆ r.set := by
  rw [View.setOn_univ]; exact le_of_eq (View.set_slice_whole b r)

/-! ## What the landings leave -/

omit [FloatOps F] in
/-- A window of the received buffer after the matching window of the sent one lands in it. -/
theorem land_z (r : Rect S352x512) (h : ∀ a, r.stride a = 1) (fs : (cc0_scratch0 : Ref sig .tc).ty.Contents (Elt F)) (fd : (cc0_scratch1 : Ref sig .tc).ty.Contents (Elt F))
    (i : S352x512.Idx) (hi : i ∈ r.set) :
    (rM.slice r h).view.write (Elt F) fd ((sM.slice r h).view.read (Elt F) fs) Finset.univ i = fs i := by
  rw [← Rect.map_emb_univ] at hi
  obtain ⟨j, -, rfl⟩ := Finset.mem_map.mp hi
  exact (View.write_emb_of_mem (v := (rM.slice r h).view) fd _ (Finset.mem_univ j)).trans rfl

/-- A window of the forwarded buffer after the window of the received one at the same rows lands in it. -/
theorem land_x (o : Fin 2 → ℕ) (hr : ∀ a, o a + S80x512.size a ≤ S352x512.size a) (hq : ∀ a, o a + S80x512.size a ≤ S160x512.size a) (c : Dev nD)
    (fd : (cc0_scratch2 : Ref sig .tc).ty.Contents (Elt F)) (i : S160x512.Idx) (hi : i ∈ (Rect.unit (s := S160x512) o S80x512.size hq).set) :
    (qM.slice (Rect.unit (s := S160x512) o S80x512.size hq) (fun _ => rfl)).view.write (Elt F) fd
      ((rM.slice (Rect.unit (s := S352x512) o S80x512.size hr) (fun _ => rfl)).view.read (Elt F) (recvC m ρ c)) Finset.univ i = fwdC m ρ (px c) i := by
  rw [← Rect.map_emb_univ] at hi
  obtain ⟨j, -, rfl⟩ := Finset.mem_map.mp hi
  refine (View.write_emb_of_mem (v := (qM.slice (Rect.unit (s := S160x512) o S80x512.size hq) (fun _ => rfl)).view) fd _ (Finset.mem_univ j)).trans ?_
  unfold fwdC
  rw [px_px]
  show recvC m ρ c ((Rect.unit (s := S352x512) o S80x512.size hr).emb j) = recvC m ρ c (RA.emb ((Rect.unit (s := S160x512) o S80x512.size hq).emb j))
  congr 1
  refine funext fun a => Fin.ext ?_
  rw [ValueKit.rect_emb_unit_val, ValueKit.rect_emb_unit_val, ValueKit.rect_emb_unit_val]
  fin_cases a <;> simp

/-- The first 160 rows after the first store, -/
theorem sent_A (f : (cc0_scratch0 : Ref sig .tc).ty.Contents (Elt F)) (c : Dev nD) (i : S352x512.Idx) (hi : i ∈ RA.set) :
    (sM.access RA : View sig .tc _ _ _).write (Elt F) f
      (k0_pay3 (k0_pay2 (xM.view.readAt (Elt F) (Rect.unit (s := S1x512x1024) (k0_off1 c) S1x160x512.size (k0_off1_inb c)).toLoadRect (xstg m ρ c)))) Finset.univ i
      = sendC m ρ c i := by
  unfold sendC
  rw [View.write_of_not_mem (v := (sM.access R2 : View sig .tc _ _ _)) _ _ _ (i := i) (by
    rw [View.setOn_univ, View.set_slice_whole]; exact Finset.disjoint_left.mp RA2_disj hi)]
  rw [← Rect.map_emb_univ] at hi
  obtain ⟨j, -, rfl⟩ := Finset.mem_map.mp hi
  exact (View.write_emb_of_mem (v := (sM.access RA : View sig .tc _ _ _)) f _ (Finset.mem_univ j)).trans
    (View.write_emb_of_mem (v := (sM.access RA : View sig .tc _ _ _)) (m ((c : Thread nD τ).loc cc0_scratch0))
      (k0_pay3 (k0_pay2 (xM.view.readAt (Elt F) (Rect.unit (s := S1x512x1024) (k0_off1 c) S1x160x512.size (k0_off1_inb c)).toLoadRect (xstg m ρ c)))) (Finset.mem_univ j)).symm

/-- and the last 192 after the second. -/
theorem sent_B (f : (cc0_scratch0 : Ref sig .tc).ty.Contents (Elt F)) (c : Dev nD) (i : S352x512.Idx) (hi : i ∈ R2.set) :
    (sM.access R2 : View sig .tc _ _ _).write (Elt F) f
      (k0_pay5 (k0_pay4 (xM.view.readAt (Elt F) (Rect.unit (s := S1x512x1024) (k0_off2 c) S1x192x512.size (k0_off2_inb c)).toLoadRect (xstg m ρ c)))) Finset.univ i
      = sendC m ρ c i := by
  unfold sendC
  rw [← Rect.map_emb_univ] at hi
  obtain ⟨j, -, rfl⟩ := Finset.mem_map.mp hi
  exact (View.write_emb_of_mem (v := (sM.access R2 : View sig .tc _ _ _)) f _ (Finset.mem_univ j)).trans
    (View.write_emb_of_mem (v := (sM.access R2 : View sig .tc _ _ _))
      ((sM.access RA : View sig .tc _ _ _).write (Elt F) (m ((c : Thread nD τ).loc cc0_scratch0))
        (k0_pay3 (k0_pay2 (xM.view.readAt (Elt F) (Rect.unit (s := S1x512x1024) (k0_off1 c) S1x160x512.size (k0_off1_inb c)).toLoadRect (xstg m ρ c)))) Finset.univ)
      (k0_pay5 (k0_pay4 (xM.view.readAt (Elt F) (Rect.unit (s := S1x512x1024) (k0_off2 c) S1x192x512.size (k0_off2_inb c)).toLoadRect (xstg m ρ c)))) (Finset.mem_univ j)).symm

/-! ## The ghost state -/

/-- Every cell's invariant, and that every cell is at its first round. -/
def records (K : Dev nD × Fin 11 → ℕ) : sProp 𝕄 :=
  iprop((bigSep Finset.univ fun ck : Dev nD × Fin 11 => cellInv ER (ringRd m ρ) (K ck) (kcell ck))
    ∗ bigSep Finset.univ fun ck : Dev nD × Fin 11 => reached ER (kcell ck) 0)

/-- The records can be used again and again. -/
instance records_persistent (K : Dev nD × Fin 11 → ℕ) : BI.Persistent (records m ρ K) := by unfold records; infer_instance

/-- The invariant of one cell, from those of all; -/
theorem inv_at' (K : Dev nD × Fin 11 → ℕ) (ck : Dev nD × Fin 11) :
    (bigSep Finset.univ fun ck : Dev nD × Fin 11 => (cellInv ER (ringRd m ρ) (K ck) (kcell ck) : sProp 𝕄)) ⊢ cellInv ER (ringRd m ρ) (K ck) (kcell ck) :=
  bigSep_elim (Finset.mem_univ ck)
omit [FloatOps F] in
/-- that its round has begun, likewise; -/
theorem reached_at' (ck : Dev nD × Fin 11) :
    (bigSep Finset.univ fun ck : Dev nD × Fin 11 => (reached ER (kcell ck) 0 : sProp 𝕄)) ⊢ reached ER (kcell ck) 0 :=
  bigSep_elim (Finset.mem_univ ck)

/-- Any one cell's invariant, and that it is at its first round. -/
theorem inv_at (K : Dev nD × Fin 11 → ℕ) (ck : Dev nD × Fin 11) : records m ρ K ⊢ cellInv ER (ringRd m ρ) (K ck) (kcell ck) := by
  unfold records
  iintro ⟨H, -⟩
  iapply (inv_at' m ρ K ck); iexact H
/-- and the same from the records. -/
theorem reached_at (K : Dev nD × Fin 11 → ℕ) (ck : Dev nD × Fin 11) : records m ρ K ⊢ reached ER (kcell ck) 0 := by
  unfold records
  iintro ⟨-, H⟩
  iapply (reached_at' (F := F) ck); iexact H

/-- A device's positions at its eleven cells. -/
def posns (r : ℕ) (c : Dev nD) : sProp 𝕄 := bigSep Finset.univ fun k : Fin 11 => atPos ER (kcell (c, k)) r ∅ 0

/-- The twelve duties of a device's cells, and which device pays each: the barrier's two, then a transfer's each. -/
def tokK (j : Fin 12) : Fin 11 × Bool := if j = 0 then (0, false) else if j = 1 then (0, true) else (⟨j.val - 1, by omega⟩, false)
/-- The device that pays the duty of each token, as a permutation of the mesh. -/
def dest : Fin 12 → (Dev nD ≃ Dev nD)
  | 0 => zEquiv | 1 => xEquiv | 2 => Equiv.refl _ | 3 => Equiv.refl _ | 4 => Equiv.refl _ | 5 => zEquiv | 6 => zEquiv | 7 => zEquiv
  | 8 => Equiv.refl _ | 9 => Equiv.refl _ | 10 => xEquiv | 11 => xEquiv

/-- The tokens of the duties device `c` pays. -/
def payToks (c : Dev nD) : sProp 𝕄 := bigSep Finset.univ fun j : Fin 12 => dutyTok ER (kcell (dest j c, (tokK j).1)) 0 (tokK j).2

omit [FloatOps F] in
/-- A separating product over eleven numbers, written out; -/
theorem bigSep_fin11 (Φ : Fin 11 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ
omit [FloatOps F] in
/-- over twelve. -/
theorem bigSep_fin12 (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

omit [FloatOps F] in
/-- The tokens a device pays with, written out. -/
theorem payToks_eq (c : Dev nD) : (payToks c : sProp 𝕄) = iprop(dutyTok ER (kcell (pz c, 0)) 0 false ∗ dutyTok ER (kcell (px c, 0)) 0 true
    ∗ dutyTok ER (kcell (c, 1)) 0 false ∗ dutyTok ER (kcell (c, 2)) 0 false ∗ dutyTok ER (kcell (c, 3)) 0 false
    ∗ dutyTok ER (kcell (pz c, 4)) 0 false ∗ dutyTok ER (kcell (pz c, 5)) 0 false ∗ dutyTok ER (kcell (pz c, 6)) 0 false
    ∗ dutyTok ER (kcell (c, 7)) 0 false ∗ dutyTok ER (kcell (c, 8)) 0 false
    ∗ dutyTok ER (kcell (px c, 9)) 0 false ∗ dutyTok ER (kcell (px c, 10)) 0 false) := by
  unfold payToks; rw [bigSep_fin12]; rfl

omit [FloatOps F] in
/-- The positions of a device at its cells, written out. -/
theorem posns_eq (r : ℕ) (c : Dev nD) : (posns r c : sProp 𝕄) = iprop(atPos ER (kcell (c, 0)) r ∅ 0 ∗ atPos ER (kcell (c, 1)) r ∅ 0 ∗ atPos ER (kcell (c, 2)) r ∅ 0
    ∗ atPos ER (kcell (c, 3)) r ∅ 0 ∗ atPos ER (kcell (c, 4)) r ∅ 0 ∗ atPos ER (kcell (c, 5)) r ∅ 0 ∗ atPos ER (kcell (c, 6)) r ∅ 0 ∗ atPos ER (kcell (c, 7)) r ∅ 0
    ∗ atPos ER (kcell (c, 8)) r ∅ 0 ∗ atPos ER (kcell (c, 9)) r ∅ 0 ∗ atPos ER (kcell (c, 10)) r ∅ 0) := by
  unfold posns; rw [bigSep_fin11]

/-- What a device starts with: the records, its positions and the tokens it pays with. -/
def ghost (K : Dev nD × Fin 11 → ℕ) (c : Dev nD) : sProp 𝕄 := iprop(records m ρ K ∗ posns 0 c ∗ payToks c)

/-- The launch's credits of a device: what the cells others pay it at will have been paid in all. -/
def credits (c : Dev nD) : sProp 𝕄 :=
  iprop(cred (tallyAt (kcell (c, 0)) () 2) ∗ cred (tallyAt (kcell (c, 4)) () N8) ∗ cred (tallyAt (kcell (c, 5)) () N8) ∗ cred (tallyAt (kcell (c, 6)) () N19)
    ∗ cred (tallyAt (kcell (c, 9)) () N8) ∗ cred (tallyAt (kcell (c, 10)) () N8))

/-- What a device owes, whatever it has waited on. -/
def ow (c : Dev nD) (O : CellTallies nD τ sig Unit) : sProp 𝕄 := iprop(∃ W, owes (c : Thread nD τ) O W)

/-- What `c`'s signal hands `pz c`, as a statement about `c`'s own buffers; -/
theorem pay_bar_false (c : Dev nD) : pay m ρ (pz c) 0 false
    = iprop((∃ f, pw c cc0_scratch1 R0.set fullShare f) ∗ (∃ f, pw c cc0_scratch1 R1.set fullShare f) ∗ (∃ f, pw c cc0_scratch1 R2.set fullShare f)) := by
  dsimp only [pay]; rw [pz_pz]
/-- and what it hands `px c`. -/
theorem pay_bar_true (c : Dev nD) : pay m ρ (px c) 0 true
    = iprop((∃ f, pw c cc0_scratch2 Q0.set fullShare f) ∗ (∃ f, pw c cc0_scratch2 Q1.set fullShare f)) := by
  dsimp only [pay]; rw [px_px]

/-! ## One rule per kind of effect -/

section Effects

variable (K : Dev nD × Fin 11 → ℕ)

/-- A signal to a partner's barrier cell: the duty's payload is handed over. -/
theorem wp_signal_bar (c n p : Dev nD) (hn : n = p) (d : Bool) (hd : d ∈ (ringRd m ρ).duties (kcell (p, 0)) 0)
    {O O' : CellTallies nD τ sig Unit} (hO : O' = O + tallyAt (kcell (p, 0)) () 1) {a : ℕ} (ha : a = 1)
    {α : Type} {Q : α → sProp 𝕄} {k : PUnit → Prog (TpuEff nD τ sig (Elt F) Λ₀ .tc) α} :
    iprop(records m ρ K ∗ ow c O' ∗ dutyTok ER (kcell (p, 0)) 0 d ∗ pay m ρ p 0 d)
      ⊢ iprop((ow c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS a) k) Q) := by
  subst hn; subst ha
  unfold ow
  iintro ⟨#HR, ⟨%W, HO⟩, Ht, Hp⟩ Hk
  iapply (Rounds.wp_signal 𝒱₀ ER (ringRd m ρ) (c : Thread nD τ) none (dst := (n : Thread nD τ)) (κ := K (n, 0))
      (d := d) hd (amount_eq m ρ n 0 0 d) () O hO) $$ [HO Ht Hp]
  · isplitr; · iapply (inv_at m ρ K (n, 0)); iexact HR
    isplitl [HO]; · iexact HO
    isplitl [Ht]; · iexact Ht
    isplitl [Hp]; · iapply (Entails.of_eq (payload_eq m ρ n 0 0 d).symm); iexact Hp
    iapply (reached_at m ρ K (n, 0)); iexact HR
  iintro HO
  iapply Hk
  iexists W; iexact HO

/-- The wait for both partners on the own barrier cell. -/
theorem wp_wait_bar (c : Dev nD) {O : CellTallies nD τ sig Unit} (hO : Above 1 O) {a : ℕ} (ha : a = 2)
    {α : Type} {Q : α → sProp 𝕄} {k : PUnit → Prog (TpuEff nD τ sig (Elt F) Λ₀ .tc) α} :
    iprop(records m ρ K ∗ levAts L lv ∗ cred (tallyAt (kcell (c, 0)) () 2) ∗ ow c O ∗ atPos ER (kcell (c, 0)) 0 ∅ 0)
      ⊢ iprop(((ow c O ∗ atPos ER (kcell (c, 0)) 1 ∅ 0 ∗ pay m ρ c 0 false ∗ pay m ρ c 0 true) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  unfold ow
  iintro ⟨#HR, #Hl, Hc, ⟨%W, HO⟩, Ha⟩ Hk
  iapply (Rounds.wp_wait_rest_token 𝒱₀ ER (ringRd m ρ) (c : Thread nD τ) none (κ := K (c, 0))
      (wpE_semWait_eq 𝒱₀ (c : Thread nD τ) none Set.univ) (Set.mem_univ _) () (O := O) (W := W) (R := 0) (m := 0) (T := ∅)
      (by rw [Nat.zero_add]; exact (expect_eq m ρ c 0).symm)) $$ [Hc HO Ha]
  · isplitr; · iapply (inv_at m ρ K (c, 0)); iexact HR
    isplitl [Hc]; · iexact Hc
    isplitl [HO]; · iexact HO
    isplitr; · iapply (mayWait_cell (F := F) c 0 hO); iexact Hl
    iexact Ha
  iintro ⟨HO, Ha, -, Hp⟩
  ihave Hp := (Entails.of_eq (rest_bar m ρ c)) $$ Hp
  iapply Hk
  isplitl [HO]; · iexists _; iexact HO
  isplitl [Ha]; · iexact Ha
  iexact Hp

/-- The wait on one of the own transfer cells: its window comes back. -/
theorem wp_wait_dma (c : Dev nD) (i : Fin 11) (sem : DmaSem sig) (hs : csem i = .dma sem) (h0 : i ≠ 0) {O : CellTallies nD τ sig Unit} (hO : Above (lev i) O)
    {s s' : Shape} {src : Memref sig .tc .vmem s' .bf16} {dst : Memref sig .tc .vmem s .bf16} {hsrc : src.view.WordExact} {hdst : dst.view.WordExact}
    (N : ℕ) (hN : dst.view.dmaCredit = N) (hT : tot i = N)
    {α : Type} {Q : α → sProp 𝕄} {k : PUnit → Prog (TpuEff nD τ sig (Elt F) Λ₀ .tc) α} :
    iprop(records m ρ K ∗ levAts L lv ∗ cred (tallyAt (kcell (c, i)) () N) ∗ ow c O ∗ atPos ER (kcell (c, i)) 0 ∅ 0)
      ⊢ iprop(((ow c O ∗ atPos ER (kcell (c, i)) 1 ∅ 0 ∗ pay m ρ c i false) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hN
  unfold ow
  have hcell : kcell (c, i) = ((c : Thread nD τ), SemLoc.dma sem) := by show ((c : Thread nD τ), csem i) = _; rw [hs]
  iintro ⟨#HR, #Hl, Hc, ⟨%W, HO⟩, Ha⟩ Hk
  ihave #HI := (inv_at m ρ K (c, i)) $$ HR
  ihave #Hm := (mayWait_cell (F := F) c i hO) $$ Hl
  have hexp := expect_eq m ρ c i
  have hrest := rest_one m ρ c i h0
  rw [hcell] at hexp hrest
  rw [hs, hcell]
  iapply (Rounds.wp_wait_rest_token 𝒱₀ ER (ringRd m ρ) (c : Thread nD τ) none (κ := K (c, i))
      (wpE_waitDma2_eq 𝒱₀ (c : Thread nD τ) none Set.univ) (Set.mem_univ _) () (O := O) (W := W) (R := 0) (m := 0) (T := ∅)
      (by rw [Nat.zero_add, hexp, hT])) $$ [Hc HO Ha]
  · isplitr; · iexact HI
    isplitl [Hc]; · iexact Hc
    isplitl [HO]; · iexact HO
    isplitr; · iexact Hm
    iexact Ha
  iintro ⟨HO, Ha, -, Hp⟩
  ihave Hp := (Entails.of_eq hrest) $$ Hp
  iapply Hk
  isplitl [HO]; · iexists _; iexact HO
  isplitl [Ha]; · iexact Ha
  iexact Hp

/-- A transfer to a partner: the source window goes with the departure, the landing with the arrival. -/
theorem wp_send_gen (c n p : Dev nD) (hn : n = p) (i j : Fin 11) (sS sR : DmaSem sig) (hi : csem i = .dma sS) (hj : csem j = .dma sR)
    {s : Shape} {src : Memref sig .tc .vmem s .bf16} {dst : Memref sig .tc .vmem s .bf16}
    {hsc : (dst : Memref sig (Dev.tc n : Thread nD τ).2.kind .vmem s .bf16).view.ref.isScScratch = false}
    {hsrc : src.view.WordExact} {hdst : dst.view.WordExact}
    {hsem : DmaTarget.Typed .vmem (.dma sR) (.remote (Dev.tc n : Thread nD τ) dst (.dma sS) hsc)}
    (N : ℕ) (hN : dst.view.amount (.dma sR) = N) (hai : amt i = N) (haj : amt j = N)
    {O O' : CellTallies nD τ sig Unit} (hO : O' = O + tallyAt (kcell (p, j)) () N) (q : PosShare TreeShare)
    (fs : Buf (Elt F) (src.view.loc (c : Thread nD τ))) (fd : Buf (Elt F) (dst.view.loc (p : Thread nD τ))) {P₁ P₂ : sProp 𝕄}
    (hP₁ : P₁ = (src.view.loc (c : Thread nD τ) ↦[src.view.set]{q} fs)) (hP₂ : P₂ = (dst.view.loc (p : Thread nD τ) ↦[dst.view.set]{fullShare} fd))
    (hpay₁ : (src.view.loc (c : Thread nD τ) ↦[src.view.set]{q} fs) ⊢ pay m ρ c i false)
    (hpay₂ : (dst.view.loc (p : Thread nD τ) ↦[dst.view.set]{fullShare} dst.view.write (Elt F) fd (src.view.read (Elt F) fs) Finset.univ) ⊢ pay m ρ p j false)
    {α : Type} {Q : α → sProp 𝕄} {k : PUnit → Prog (TpuEff nD τ sig (Elt F) Λ₀ .tc) α} :
    iprop(records m ρ K ∗ ow c O' ∗ dutyTok ER (kcell (c, i)) 0 false ∗ dutyTok ER (kcell (p, j)) 0 false ∗ P₁ ∗ P₂)
      ⊢ iprop(((ow c O ∗ cred (tallyAt (kcell (c, i)) () N)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hP₁ hP₂
  unfold ow
  have hci : kcell (c, i) = ((c : Thread nD τ), SemLoc.dma sS) := by show ((c : Thread nD τ), csem i) = _; rw [hi]
  have hcj : kcell (n, j) = ((n : Thread nD τ), SemLoc.dma sR) := by show ((n : Thread nD τ), csem j) = _; rw [hj]
  have hdi := mem_false m ρ c i
  have hdj := mem_false m ρ n j
  have ami := amount_eq m ρ c i 0 false
  have amj := amount_eq m ρ n j 0 false
  have pyi := payload_eq m ρ c i 0 false
  have pyj := payload_eq m ρ n j 0 false
  iintro ⟨#HR, ⟨%W, HO⟩, Ht, Ht', Hs, Hd⟩ Hk
  ihave #HI := (inv_at m ρ K (c, i)) $$ HR
  ihave #HI' := (inv_at m ρ K (n, j)) $$ HR
  ihave #Hr := (reached_at m ρ K (c, i)) $$ HR
  ihave #Hr' := (reached_at m ρ K (n, j)) $$ HR
  rw [hci] at hdi ami pyi ⊢
  rw [hcj] at hdj amj pyj hO ⊢
  iapply (Rounds.wp_send_pointsTo 𝒱₀ ER (ringRd m ρ) (c : Thread nD τ) none (κ₁ := K (c, i)) (κ₂ := K (n, j))
    (r₁ := 0) (r₂ := 0) (d₁ := false) (d₂ := false) (fd := fd) hdi hdj () () N hN (ami.trans hai) (amj.trans haj) O hO (W := W)
    (by rw [pyi]; exact hpay₁) (by rw [pyj]; exact hpay₂)) $$ [HO Ht Ht' Hs Hd]
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [HO]; · iexists _; iexact HO
  iexact Hc

/-- A window sent to `pz c`. -/
theorem wp_send_z (c n : Dev nD) (hn : n = pz c) (i j : Fin 11) (sS sR : DmaSem sig) (hi : csem i = .dma sS) (hj : csem j = .dma sR)
    (r : Rect S352x512) {hr : ∀ a, r.stride a = 1}
    {hsc : (rM.slice r hr : Memref sig (Dev.tc n : Thread nD τ).2.kind .vmem r.shape .bf16).view.ref.isScScratch = false}
    {hsrc : (sM.slice r hr).view.WordExact} {hdst : (rM.slice r hr).view.WordExact}
    {hsem : DmaTarget.Typed .vmem (.dma sR) (.remote (Dev.tc n : Thread nD τ) (rM.slice r hr) (.dma sS) hsc)}
    (N : ℕ) (hN : (rM.slice r hr).view.amount (.dma sR) = N) (hai : amt i = N) (haj : amt j = N)
    {O O' : CellTallies nD τ sig Unit} (hO : O' = O + tallyAt (kcell (pz c, j)) () N)
    (fd : Buf (Elt F) ((pz c : Thread nD τ).loc cc0_scratch1))
    (hpi : pay m ρ c i false = pw c cc0_scratch0 r.set fullShare (sendC m ρ c)) (hpj : pay m ρ (pz c) j false = pw (pz c) cc0_scratch1 r.set fullShare (recvC m ρ (pz c)))
    {α : Type} {Q : α → sProp 𝕄} {k : PUnit → Prog (TpuEff nD τ sig (Elt F) Λ₀ .tc) α} :
    iprop(records m ρ K ∗ ow c O' ∗ dutyTok ER (kcell (c, i)) 0 false ∗ dutyTok ER (kcell (pz c, j)) 0 false
        ∗ pw c cc0_scratch0 r.set fullShare (sendC m ρ c) ∗ pw (pz c) cc0_scratch1 r.set fullShare fd)
      ⊢ iprop(((ow c O ∗ cred (tallyAt (kcell (c, i)) () N)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sM.slice r hr) (.remote (Dev.tc n : Thread nD τ) (rM.slice r hr) (.dma sS) hsc) (.dma sR) hsrc hdst hsem) k) Q) :=
  wp_send_gen m ρ K c n (pz c) hn i j sS sR hi hj N hN hai haj hO fullShare (sendC m ρ c) fd
    (by rw [View.set_slice_whole]) (by rw [View.set_slice_whole])
    (by rw [hpi, View.set_slice_whole])
    (by
      rw [hpj, View.set_slice_whole]
      refine Entails.of_eq (pointsTo_congr fun i hi => ?_)
      rw [show recvC m ρ (pz c) = sendC m ρ c from by unfold recvC; rw [pz_pz]]
      exact land_z r hr (sendC m ρ c) fd i hi)

/-- A window of what arrived from `pz c`, forwarded to `px c` at half the share. -/
theorem wp_send_x (c n : Dev nD) (hn : n = px c) (i j : Fin 11) (sS sR : DmaSem sig) (hi : csem i = .dma sS) (hj : csem j = .dma sR)
    (o : Fin 2 → ℕ) (hr : ∀ a, o a + S80x512.size a ≤ S352x512.size a) (hq : ∀ a, o a + S80x512.size a ≤ S160x512.size a)
    {hsc : (qM.slice (Rect.unit (s := S160x512) o S80x512.size hq) (fun _ => rfl) : Memref sig (Dev.tc n : Thread nD τ).2.kind .vmem S80x512 .bf16).view.ref.isScScratch = false}
    {hsrc : (rM.slice (Rect.unit (s := S352x512) o S80x512.size hr) (fun _ => rfl)).view.WordExact} {hdst : (qM.slice (Rect.unit (s := S160x512) o S80x512.size hq) (fun _ => rfl)).view.WordExact}
    {hsem : DmaTarget.Typed .vmem (.dma sR) (.remote (Dev.tc n : Thread nD τ) (qM.slice (Rect.unit (s := S160x512) o S80x512.size hq) (fun _ => rfl)) (.dma sS) hsc)}
    (N : ℕ) (hN : (qM.slice (Rect.unit (s := S160x512) o S80x512.size hq) (fun _ => rfl)).view.amount (.dma sR) = N) (hai : amt i = N) (haj : amt j = N)
    {O O' : CellTallies nD τ sig Unit} (hO : O' = O + tallyAt (kcell (px c, j)) () N)
    (fd : Buf (Elt F) ((px c : Thread nD τ).loc cc0_scratch2))
    (hpi : pay m ρ c i false = pw c cc0_scratch1 (Rect.unit (s := S352x512) o S80x512.size hr).set fullShare.left (recvC m ρ c))
    (hpj : pay m ρ (px c) j false = pw (px c) cc0_scratch2 (Rect.unit (s := S160x512) o S80x512.size hq).set fullShare (fwdC m ρ (px c)))
    {α : Type} {Q : α → sProp 𝕄} {k : PUnit → Prog (TpuEff nD τ sig (Elt F) Λ₀ .tc) α} :
    iprop(records m ρ K ∗ ow c O' ∗ dutyTok ER (kcell (c, i)) 0 false ∗ dutyTok ER (kcell (px c, j)) 0 false
        ∗ pw c cc0_scratch1 (Rect.unit (s := S352x512) o S80x512.size hr).set fullShare.left (recvC m ρ c)
        ∗ pw (px c) cc0_scratch2 (Rect.unit (s := S160x512) o S80x512.size hq).set fullShare fd)
      ⊢ iprop(((ow c O ∗ cred (tallyAt (kcell (c, i)) () N)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rM.slice (Rect.unit (s := S352x512) o S80x512.size hr) (fun _ => rfl)) (.remote (Dev.tc n : Thread nD τ)
                (qM.slice (Rect.unit (s := S160x512) o S80x512.size hq) (fun _ => rfl)) (.dma sS) hsc) (.dma sR) hsrc hdst hsem) k) Q) :=
  wp_send_gen m ρ K c n (px c) hn i j sS sR hi hj N hN hai haj hO fullShare.left (recvC m ρ c) fd
    (by rw [View.set_slice_whole]) (by rw [View.set_slice_whole])
    (by rw [hpi, View.set_slice_whole])
    (by
      rw [hpj, View.set_slice_whole]
      exact Entails.of_eq (pointsTo_congr fun i hi => land_x m ρ o hr hq c fd i hi))

/-- A device's cell closes after its round: its counter at zero is the device's again. -/
theorem close_one (c : Dev nD) (k : Fin 11) : iprop(records m ρ K ∗ atPos ER (kcell (c, k)) 1 ∅ 0) ⊢ |={Set.univ}=> (semVal (kcell (c, k)) 0 : sProp 𝕄) := by
  iintro ⟨#HR, Ha⟩
  ihave #HI := (inv_at m ρ K (c, k)) $$ HR
  imod (Rounds.cell_close ER (ringRd m ρ) (Set.mem_univ (K (c, k))) (fun h => h) (R := 0 + 1) (duties_later m ρ (kcell (c, k)))) $$ [Ha] with Hz
  · isplitr; · iexact HI
    iexact Ha
  imodintro; iexact Hz

/-- So do all eleven. -/
theorem close_all (c : Dev nD) : iprop(records m ρ K ∗ posns 1 c) ⊢ |={Set.univ}=> (bigSep Finset.univ fun k : Fin 11 => semVal (kcell (c, k)) 0 : sProp 𝕄) := by
  unfold posns
  refine (sep_mono_left (BI.bigSep_of_persistent (Finset.univ : Finset (Fin 11)) (records m ρ K))).trans ?_
  rw [← bigSep_sep']
  exact (bigSep_mono fun k _ => close_one m ρ K c k).trans (bigSep_fupd _ _)

end Effects

/-! ## The body -/

section Body

variable (K : Dev nD × Fin 11 → ℕ)

/-- What each device starts with: its ghost state, its credits and the levels. -/
def start (c : Dev nD) : sProp 𝕄 := iprop((∃ K, ghost m ρ K c) ∗ credits c ∗ levAts L lv)

/-- A device's three working buffers at some contents. -/
def scrs (c : Dev nD) : sProp 𝕄 :=
  iprop((∃ f, pw (F := F) c cc0_scratch0 Finset.univ fullShare f) ∗ (∃ f, pw (F := F) c cc0_scratch1 Finset.univ fullShare f) ∗ (∃ f, pw (F := F) c cc0_scratch2 Finset.univ fullShare f))

/-- Before the body, and after it: the working buffers, and every cell's counter at zero. -/
def Φ₀ (c : Dev nD) : sProp 𝕄 := iprop(start m ρ c ∗ scrs c)
/-- At the end: the scratch buffers and every counter at zero. -/
def Φ₁ (c : Dev nD) : sProp 𝕄 := iprop(scrs c ∗ bigSep Finset.univ fun k : Fin 11 => semVal (kcell (c, k)) 0)

/-- The pipeline's account of the region: the argument stays, the result buffer ends at the kernel's result. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The argument is fetched before the body. -/
theorem fetch_0 (t : Fin cfg0.N) : (cfg0.win (0 : Fin 2)).fetch t = true := by rw [fin_N0 t]; rfl

/-- A staging buffer held with given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- Owning a whole buffer with contents `X` is holding it as a staging buffer. -/
theorem stg_of_owns (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  rw [owns, Memref.view_whole, View.set_whole]
  rfl

/-- What the body starts from, -/
def bodyPre (c : Dev nD) : sProp 𝕄 :=
  iprop((ghost m ρ K c ∗ credits c ∗ levAts L lv ∗ scrs c)
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- and what it ends with. -/
def bodyPost (c : Dev nD) : sProp 𝕄 :=
  iprop(Φ₁ c ∗ (dats m ρ 0 c).owesAt () t0_0.succ ∗ stg c cc0_stg0_0 (xstg m ρ c) ∗ stg c cc0_stg1_0 (outAt m ρ c))

/-- The first store into the result buffer overwrites all of it. -/
theorem write_out1 (c : Dev nD) (f : (cc0_stg1_0 : Ref sig .tc).ty.Contents (Elt F)) :
    (oM.access (Rect.unit (s := S512x512) ![0, 0] S512x512.size inb_S512x512_S512x512_0_0) : View sig .tc _ _ _).write (Elt F) f
      (k0_pay6 (xM.view.readAt (Elt F) (Rect.unit (s := S1x512x1024) (k0_off3 c) S1x512x512.size (k0_off3_inb c)).toLoadRect (xstg m ρ c))) Finset.univ = out1 m ρ c :=
  Memref.write_access_unit_zero_univ (Elt F) cc0_stg1_0 (funext fun a => by fin_cases a <;> rfl) _ f _

set_option maxHeartbeats 4000000 in
/-- The body, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) (Memref.whole cc0_scratch2) (Memref.isWhole_whole _)
            cc0_scratch3 cc0_scratch4 cc0_scratch5 cc0_scratch6) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold bodyPre ghost credits scrs
  rw [payToks_eq, posns_eq]
  iintro ⟨⟨⟨⟨#HR, ⟨Ha0, Ha1, Ha2, Ha3, Ha4, Ha5, Ha6, Ha7, Ha8, Ha9, Ha10⟩, ⟨Tz, Tx, T1, T2, T3, T4, T5, T6, T7, T8, T9, T10⟩⟩, ⟨C0, C4, C5, C6, C9, C10⟩, #Hlev, ⟨⟨%f0, HS⟩, ⟨%f1, HV⟩, ⟨%f2, HQ⟩⟩⟩,
    Ho, ⟨%d0, %g0, %hg0, Hx⟩, ⟨%d1, %g1, %hg1, Hout⟩⟩, Hk⟩
  have hx : g0 = xstg m ρ c := by rw [hg0]; unfold Dat.before; rw [if_pos (fetch_0 t0_0)]; rfl
  subst hx
  unfold Dat.owesAt Pipeline.owesWithin
  icases Ho with ⟨%W, %hW, HO⟩
  rw [show (dats m ρ 0 c).owed t0_0.castSucc = O₀ c from rfl]
  ihave HO := (show owes (c : Thread nD τ) (O₀ c) W ⊢ ow (F := F) c (O₀ c) from by unfold ow; iintro H; iexists W; iexact H) $$ HO
  simp only [dev1_eq c, dev2_eq c]
  -- split the landing buffers into the windows the partners write
  ihave HV := (Entails.of_eq (pw_union c cc0_scratch1 RA2_disj RA2_union fullShare f1)) $$ HV
  icases HV with ⟨HVA, HV2⟩
  ihave HVA := (Entails.of_eq (pw_union c cc0_scratch1 R01_disj R01_union fullShare f1)) $$ HVA
  icases HVA with ⟨HV0, HV1⟩
  ihave HQ := (Entails.of_eq (pw_union c cc0_scratch2 Q01_disj Q01_union fullShare f2)) $$ HQ
  icases HQ with ⟨HQ0, HQ1⟩
  -- the signal to `pz c`, handing it the three windows it writes
  iapply (wp_signal_bar m ρ K c _ (pz c) rfl false (mem_false m ρ (pz c) 0) (O := OB1 c) rfl (by decide)) $$ [HO Tz HV0 HV1 HV2]
  · isplitr; · iexact HR
    isplitl [HO]; · iexact HO
    isplitl [Tz]; · iexact Tz
    rw [pay_bar_false]
    isplitl [HV0]; · iexists f1; iexact HV0
    isplitl [HV1]; · iexists f1; iexact HV1
    iexists f1; iexact HV2
  iintro HO
  -- the signal to `px c`, handing it the two
  iapply (wp_signal_bar m ρ K c _ (px c) rfl true (mem_true m ρ (px c)) (O := OZ0 c) rfl (by decide)) $$ [HO Tx HQ0 HQ1]
  · isplitr; · iexact HR
    isplitl [HO]; · iexact HO
    isplitl [Tx]; · iexact Tx
    rw [pay_bar_true]
    isplitl [HQ0]; · iexists f2; iexact HQ0
    iexists f2; iexact HQ1
  iintro HO
  -- the first 160 rows, truncated, into the send buffer
  iapply (wp_load 𝒱₀ (c : Thread nD τ) none Set.univ (m := xM) (Finset.subset_univ _)) $$ Hx; iintro Hx
  iapply (wp_load 𝒱₀ (c : Thread nD τ) none Set.univ (m := sM) (Finset.subset_univ _)) $$ HS; iintro HS
  iapply (wp_store 𝒱₀ (c : Thread nD τ) none Set.univ (m := sM) (r := RA) (Mk := Finset.univ) (Finset.subset_univ _)) $$ HS; iintro HS
  ihave HS := (Entails.of_eq (pw_union c cc0_scratch0 RA2_disj RA2_union fullShare _)) $$ HS
  icases HS with ⟨HSA, HS2⟩
  ihave HSA := (Entails.of_eq (pointsTo_congr (fun i hi => sent_A m ρ f0 c i hi))) $$ HSA
  ihave HSA := (Entails.of_eq (pw_union c cc0_scratch0 R01_disj R01_union fullShare _)) $$ HSA
  icases HSA with ⟨HS0, HS1⟩
  -- the wait for both partners: their windows come with it
  iapply (wp_wait_bar m ρ K c (above_OZ0 c) (by decide)) $$ [C0 HO Ha0]
  · isplitr; · iexact HR
    isplitr; · iexact Hlev
    isplitl [C0]; · iexact C0
    isplitl [HO]; · iexact HO
    iexact Ha0
  iintro ⟨HO, Ha0, Hp, Hp'⟩
  ihave Hp := (Entails.of_eq (show pay m ρ c 0 false = iprop((∃ f, pw (pz c) cc0_scratch1 R0.set fullShare f) ∗ (∃ f, pw (pz c) cc0_scratch1 R1.set fullShare f)
      ∗ (∃ f, pw (pz c) cc0_scratch1 R2.set fullShare f)) from rfl)) $$ Hp
  ihave Hp' := (Entails.of_eq (show pay m ρ c 0 true = iprop((∃ f, pw (px c) cc0_scratch2 Q0.set fullShare f) ∗ (∃ f, pw (px c) cc0_scratch2 Q1.set fullShare f)) from rfl)) $$ Hp'
  icases Hp with ⟨⟨%n0, HN0⟩, ⟨%n1, HN1⟩, ⟨%n2, HN2⟩⟩
  icases Hp' with ⟨⟨%u0, HU0⟩, ⟨%u1, HU1⟩⟩
  -- the first two windows to `pz c`
  iapply (wp_send_z m ρ K c _ (dev3_eq c) 1 4 zs0 zr0 rfl rfl R0 N8 rfl rfl rfl (O := OZ1 c) rfl n0 rfl rfl) $$ [HO T1 T4 HS0 HN0]
  · isplitr; · iexact HR
    isplitl [HO]; · iexact HO
    isplitl [T1]; · iexact T1
    isplitl [T4]; · iexact T4
    isplitl [HS0]; · iexact HS0
    iexact HN0
  iintro ⟨HO, C1⟩
  iapply (wp_send_z m ρ K c _ (dev4_eq c) 2 5 zs1 zr1 rfl rfl R1 N8 rfl rfl rfl (O := OZ2 c) rfl n1 rfl rfl) $$ [HO T2 T5 HS1 HN1]
  · isplitr; · iexact HR
    isplitl [HO]; · iexact HO
    isplitl [T2]; · iexact T2
    isplitl [T5]; · iexact T5
    isplitl [HS1]; · iexact HS1
    iexact HN1
  iintro ⟨HO, C2⟩
  -- the last 192 rows, truncated, into the send buffer, and to `pz c`
  iapply (wp_load 𝒱₀ (c : Thread nD τ) none Set.univ (m := xM) (Finset.subset_univ _)) $$ Hx; iintro Hx
  iapply (wp_load 𝒱₀ (c : Thread nD τ) none Set.univ (m := sM) (load_sub cc0_scratch0 R2)) $$ HS2; iintro HS2
  iapply (wp_store 𝒱₀ (c : Thread nD τ) none Set.univ (m := sM) (r := R2) (Mk := Finset.univ) (store_sub cc0_scratch0 R2)) $$ HS2; iintro HS2
  ihave HS2 := (Entails.of_eq (pointsTo_congr (fun i hi => sent_B m ρ _ c i hi))) $$ HS2
  iapply (wp_send_z m ρ K c _ (dev5_eq c) 3 6 zs2 zr2 rfl rfl R2 N19 rfl rfl rfl (O := OX0 c) rfl n2 rfl rfl) $$ [HO T3 T6 HS2 HN2]
  · isplitr; · iexact HR
    isplitl [HO]; · iexact HO
    isplitl [T3]; · iexact T3
    isplitl [T6]; · iexact T6
    isplitl [HS2]; · iexact HS2
    iexact HN2
  iintro ⟨HO, C3⟩
  -- the own half into the result buffer
  iapply (wp_load 𝒱₀ (c : Thread nD τ) none Set.univ (m := xM) (Finset.subset_univ _)) $$ Hx; iintro Hx
  iapply (wp_load 𝒱₀ (c : Thread nD τ) none Set.univ (m := oM) (Finset.subset_univ _)) $$ Hout; iintro Hout
  iapply (wp_store 𝒱₀ (c : Thread nD τ) none Set.univ (m := oM) (r := Rect.unit (s := S512x512) ![0, 0] S512x512.size inb_S512x512_S512x512_0_0) (Mk := Finset.univ) (Finset.subset_univ _)) $$ Hout; iintro Hout
  ihave Hout := (Entails.of_eq (pointsTo_congr (fun i _ => congrFun (write_out1 m ρ c g1) i))) $$ Hout
  -- the first window has left and its counterpart has arrived: forward that one to `px c`
  iapply (wp_wait_dma m ρ K c 1 zs0 rfl (by decide) (above_mono (by decide) (above_OX0 c)) N8 (dst := sW0) rfl rfl) $$ [C1 HO Ha1]
  · isplitr; · iexact HR
    isplitr; · iexact Hlev
    isplitl [C1]; · iexact C1
    isplitl [HO]; · iexact HO
    iexact Ha1
  iintro ⟨HO, Ha1, Hp⟩
  ihave HS0 := (Entails.of_eq (show pay m ρ c 1 false = pw c cc0_scratch0 R0.set fullShare (sendC m ρ c) from rfl)) $$ Hp
  iapply (wp_wait_dma m ρ K c 4 zr0 rfl (by decide) (above_mono (by decide) (above_OX0 c)) N8 (dst := rW0) rfl rfl) $$ [C4 HO Ha4]
  · isplitr; · iexact HR
    isplitr; · iexact Hlev
    isplitl [C4]; · iexact C4
    isplitl [HO]; · iexact HO
    iexact Ha4
  iintro ⟨HO, Ha4, Hp⟩
  ihave HV0 := (Entails.of_eq (show pay m ρ c 4 false = pw c cc0_scratch1 R0.set fullShare (recvC m ρ c) from rfl)) $$ Hp
  ihave HV0 := (Entails.of_eq (pw_halves c cc0_scratch1 R0.set (recvC m ρ c))) $$ HV0
  icases HV0 with ⟨HL0, HH0⟩
  iapply (wp_send_x m ρ K c _ (dev6_eq c) 7 9 xs0 xr0 rfl rfl ![0, 0] inb_S352x512_S80x512_0_0 inb_S160x512_S80x512_0_0 N8 rfl rfl rfl (O := OX1 c) (rfl) u0 rfl rfl) $$ [HO T7 T9 HL0 HU0]
  · isplitr; · iexact HR
    isplitl [HO]; · iexact HO
    isplitl [T7]; · iexact T7
    isplitl [T9]; · iexact T9
    isplitl [HL0]; · iexact HL0
    iexact HU0
  iintro ⟨HO, C7⟩
  -- likewise the second
  iapply (wp_wait_dma m ρ K c 2 zs1 rfl (by decide) (above_mono (by decide) (above_OX1 c)) N8 (dst := sW1) rfl rfl) $$ [C2 HO Ha2]
  · isplitr; · iexact HR
    isplitr; · iexact Hlev
    isplitl [C2]; · iexact C2
    isplitl [HO]; · iexact HO
    iexact Ha2
  iintro ⟨HO, Ha2, Hp⟩
  ihave HS1 := (Entails.of_eq (show pay m ρ c 2 false = pw c cc0_scratch0 R1.set fullShare (sendC m ρ c) from rfl)) $$ Hp
  iapply (wp_wait_dma m ρ K c 5 zr1 rfl (by decide) (above_mono (by decide) (above_OX1 c)) N8 (dst := rW1) rfl rfl) $$ [C5 HO Ha5]
  · isplitr; · iexact HR
    isplitr; · iexact Hlev
    isplitl [C5]; · iexact C5
    isplitl [HO]; · iexact HO
    iexact Ha5
  iintro ⟨HO, Ha5, Hp⟩
  ihave HV1 := (Entails.of_eq (show pay m ρ c 5 false = pw c cc0_scratch1 R1.set fullShare (recvC m ρ c) from rfl)) $$ Hp
  ihave HV1 := (Entails.of_eq (pw_halves c cc0_scratch1 R1.set (recvC m ρ c))) $$ HV1
  icases HV1 with ⟨HL1, HH1⟩
  iapply (wp_send_x m ρ K c _ (dev7_eq c) 8 10 xs1 xr1 rfl rfl ![80, 0] inb_S352x512_S80x512_80_0 inb_S160x512_S80x512_80_0 N8 rfl rfl rfl (O := 0) (by rw [zero_add]) u1 rfl rfl) $$ [HO T8 T10 HL1 HU1]
  · isplitr; · iexact HR
    isplitl [HO]; · iexact HO
    isplitl [T8]; · iexact T8
    isplitl [T10]; · iexact T10
    isplitl [HL1]; · iexact HL1
    iexact HU1
  iintro ⟨HO, C8⟩
  -- the last window has left and arrived
  iapply (wp_wait_dma m ρ K c 3 zs2 rfl (by decide) (above_zero _) N19 (dst := sW2) rfl rfl) $$ [C3 HO Ha3]
  · isplitr; · iexact HR
    isplitr; · iexact Hlev
    isplitl [C3]; · iexact C3
    isplitl [HO]; · iexact HO
    iexact Ha3
  iintro ⟨HO, Ha3, Hp⟩
  ihave HS2 := (Entails.of_eq (show pay m ρ c 3 false = pw c cc0_scratch0 R2.set fullShare (sendC m ρ c) from rfl)) $$ Hp
  iapply (wp_wait_dma m ρ K c 6 zr2 rfl (by decide) (above_zero _) N19 (dst := rW2) rfl rfl) $$ [C6 HO Ha6]
  · isplitr; · iexact HR
    isplitr; · iexact Hlev
    isplitl [C6]; · iexact C6
    isplitl [HO]; · iexact HO
    iexact Ha6
  iintro ⟨HO, Ha6, Hp⟩
  ihave HV2 := (Entails.of_eq (show pay m ρ c 6 false = pw c cc0_scratch1 R2.set fullShare (recvC m ρ c) from rfl)) $$ Hp
  -- add what arrived: the first 160 rows and the last 192
  iapply (wp_load 𝒱₀ (c : Thread nD τ) none Set.univ (m := oM) (Finset.subset_univ _)) $$ Hout; iintro Hout
  ihave HHA := (Entails.of_eq (pw_union c cc0_scratch1 R01_disj R01_union fullShare.right (recvC m ρ c)).symm) $$ [HH0 HH1]
  · isplitl [HH0] <;> iassumption
  iapply (wp_load 𝒱₀ (c : Thread nD τ) none Set.univ (m := rM) (load_sub cc0_scratch1 RA)) $$ HHA; iintro HHA
  iapply (wp_load 𝒱₀ (c : Thread nD τ) none Set.univ (m := oM) (Finset.subset_univ _)) $$ Hout; iintro Hout
  iapply (wp_store 𝒱₀ (c : Thread nD τ) none Set.univ (m := oM) (r := RO4 c) (Mk := Finset.univ) (Finset.subset_univ _)) $$ Hout; iintro Hout
  iapply (wp_load 𝒱₀ (c : Thread nD τ) none Set.univ (m := oM) (Finset.subset_univ _)) $$ Hout; iintro Hout
  iapply (wp_load 𝒱₀ (c : Thread nD τ) none Set.univ (m := rM) (load_sub cc0_scratch1 R2)) $$ HV2; iintro HV2
  iapply (wp_load 𝒱₀ (c : Thread nD τ) none Set.univ (m := oM) (Finset.subset_univ _)) $$ Hout; iintro Hout
  iapply (wp_store 𝒱₀ (c : Thread nD τ) none Set.univ (m := oM) (r := RO3) (Mk := Finset.univ) (Finset.subset_univ _)) $$ Hout; iintro Hout
  -- the forwarded windows have left and the counterparts have arrived
  iapply (wp_wait_dma m ρ K c 7 xs0 rfl (by decide) (above_zero _) N8 (dst := rW0) rfl rfl) $$ [C7 HO Ha7]
  · isplitr; · iexact HR
    isplitr; · iexact Hlev
    isplitl [C7]; · iexact C7
    isplitl [HO]; · iexact HO
    iexact Ha7
  iintro ⟨HO, Ha7, Hp⟩
  ihave HL0 := (Entails.of_eq (show pay m ρ c 7 false = pw c cc0_scratch1 R0.set fullShare.left (recvC m ρ c) from rfl)) $$ Hp
  iapply (wp_wait_dma m ρ K c 8 xs1 rfl (by decide) (above_zero _) N8 (dst := rW1) rfl rfl) $$ [C8 HO Ha8]
  · isplitr; · iexact HR
    isplitr; · iexact Hlev
    isplitl [C8]; · iexact C8
    isplitl [HO]; · iexact HO
    iexact Ha8
  iintro ⟨HO, Ha8, Hp⟩
  ihave HL1 := (Entails.of_eq (show pay m ρ c 8 false = pw c cc0_scratch1 R1.set fullShare.left (recvC m ρ c) from rfl)) $$ Hp
  iapply (wp_wait_dma m ρ K c 9 xr0 rfl (by decide) (above_zero _) N8 (dst := qW0) rfl rfl) $$ [C9 HO Ha9]
  · isplitr; · iexact HR
    isplitr; · iexact Hlev
    isplitl [C9]; · iexact C9
    isplitl [HO]; · iexact HO
    iexact Ha9
  iintro ⟨HO, Ha9, Hp⟩
  ihave HQ0 := (Entails.of_eq (show pay m ρ c 9 false = pw c cc0_scratch2 Q0.set fullShare (fwdC m ρ c) from rfl)) $$ Hp
  iapply (wp_wait_dma m ρ K c 10 xr1 rfl (by decide) (above_zero _) N8 (dst := qW1) rfl rfl) $$ [C10 HO Ha10]
  · isplitr; · iexact HR
    isplitr; · iexact Hlev
    isplitl [C10]; · iexact C10
    isplitl [HO]; · iexact HO
    iexact Ha10
  iintro ⟨HO, Ha10, Hp⟩
  ihave HQ1 := (Entails.of_eq (show pay m ρ c 10 false = pw c cc0_scratch2 Q1.set fullShare (fwdC m ρ c) from rfl)) $$ Hp
  ihave HQ := (Entails.of_eq (pw_union c cc0_scratch2 Q01_disj Q01_union fullShare (fwdC m ρ c)).symm) $$ [HQ0 HQ1]
  · isplitl [HQ0] <;> iassumption
  -- add what was forwarded
  iapply (wp_load 𝒱₀ (c : Thread nD τ) none Set.univ (m := oM) (Finset.subset_univ _)) $$ Hout; iintro Hout
  iapply (wp_load 𝒱₀ (c : Thread nD τ) none Set.univ (m := qM) (Finset.subset_univ _)) $$ HQ; iintro HQ
  iapply (wp_load 𝒱₀ (c : Thread nD τ) none Set.univ (m := oM) (Finset.subset_univ _)) $$ Hout; iintro Hout
  iapply (wp_store 𝒱₀ (c : Thread nD τ) none Set.univ (m := oM) (r := RO5 c) (Mk := Finset.univ) (Finset.subset_univ _)) $$ Hout; iintro Hout
  -- every cell closes
  imod (close_all m ρ K c) $$ [Ha0 Ha1 Ha2 Ha3 Ha4 Ha5 Ha6 Ha7 Ha8 Ha9 Ha10] with Hz
  · isplitr; · iexact HR
    rw [posns_eq]
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    iexact Ha10
  -- the working buffers are whole again
  ihave HSA := (Entails.of_eq (pw_union c cc0_scratch0 R01_disj R01_union fullShare (sendC m ρ c)).symm) $$ [HS0 HS1]
  · isplitl [HS0] <;> iassumption
  ihave HS := (Entails.of_eq (pw_union c cc0_scratch0 RA2_disj RA2_union fullShare (sendC m ρ c)).symm) $$ [HSA HS2]
  · isplitl [HSA] <;> iassumption
  ihave HLA := (Entails.of_eq (pw_union c cc0_scratch1 R01_disj R01_union fullShare.left (recvC m ρ c)).symm) $$ [HL0 HL1]
  · isplitl [HL0] <;> iassumption
  ihave HVA := (Entails.of_eq (pw_halves c cc0_scratch1 RA.set (recvC m ρ c)).symm) $$ [HLA HHA]
  · isplitl [HLA] <;> iassumption
  ihave HV := (Entails.of_eq (pw_union c cc0_scratch1 RA2_disj RA2_union fullShare (recvC m ρ c)).symm) $$ [HVA HV2]
  · isplitl [HVA] <;> iassumption
  rw [wp_ret]; imodintro
  iapply Hk
  unfold bodyPost Φ₁ scrs Dat.owesAt Pipeline.owesWithin ow
  rw [show (dats m ρ 0 c).owed t0_0.succ = 0 from rfl]
  isplitl [HS HV HQ Hz]
  · isplitl [HS HV HQ]
    · isplitl [HS]; · iexists _; iexact HS
      isplitl [HV]; · iexists _; iexact HV
      iexists _; iexact HQ
    iexact Hz
  isplitl [HO]
  · icases HO with ⟨%W', HO⟩
    iexists W'
    isplitr; · ipureintro; exact fun _ _ => Or.inl trivial
    iexact HO
  isplitl [Hx]
  · iexists _; isplitr; · (ipureintro; rfl)
    iexact Hx
  iexists _; isplitr; · (ipureintro; rfl)
  iexact Hout

end Body

end Cert.KernelIdeal.Exch

end
-- ==== Proof.IdealLaunch.lean ====
/-
The launch of the reduce-scatter kernel at the 2x2x2 mesh: every device's cells set up at once from the semaphores at
zero, the duty tokens dealt to the devices that pay them, the launch's credits counted, and the run.
-/
module

public import proofs.«01_k».proof.Proof.IdealBody
public import Idealize.ShloMosaic.Lib.Pipeline.CollectiveSegs

@[expose] public section

noncomputable section

namespace Cert.KernelIdeal.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

/-- What the body starts from, as the pipeline hands it over. -/
def bodyPre' (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

set_option maxHeartbeats 2000000 in
set_option maxRecDepth 4000 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [stg_of_owns]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6) (fun _ => bodyPost m ρ c)
  unfold bodyPre' Φ₀ start
  iintro ⟨⟨⟨⟨%K, Hg⟩, Hc, Hl⟩, Hscr⟩, Ho, Hx, Hout⟩
  iapply (sound_body m ρ K c fun _ => bodyPost m ρ c)
  unfold bodyPre
  isplitr []
  · isplitl [Hg Hc Hl Hscr]
    · isplitl [Hg]; · iexact Hg
      isplitl [Hc]; · iexact Hc
      isplitl [Hl]; · iexact Hl
      iexact Hscr
    isplitl [Ho]; · iexact Ho
    isplitl [Hx] <;> iassumption
  · iintro H; iexact H

/-! ## The cells and the tokens at launch -/

/-- The kernel's own semaphores are scoped, and none is the pipeline's. -/
theorem ownSemFacts : Pipeline.OwnSemFacts cfg0.spec osem := by decide

/-- Every window is held at the full share. -/
theorem share_eq (c : Dev nD) (w : Fin cfg0.W) : (dats m ρ 0 c).share w = fullShare := by unfold Dat.share; split <;> rfl

/-- The cells of the exchange. -/
def ringCells : Finset (GSem nD τ sig) := Finset.univ.map ⟨kcell, kcell_injective⟩

/-- The twelve duties of a device are different, -/
theorem tokK_injective : Function.Injective tokK := by decide

/-- A duty token of a device's own cell, by number. -/
abbrev tokOf (cj : Dev nD × Fin 12) : GSem nD τ sig × ℕ × Bool := (kcell (cj.1, (tokK cj.2).1), 0, (tokK cj.2).2)
/-- and so are those of all devices. -/
theorem tokOf_injective : Function.Injective (tokOf : Dev nD × Fin 12 → GSem nD τ sig × ℕ × Bool) := by
  rintro ⟨c, j⟩ ⟨c', j'⟩ h
  have h1 := kcell_injective (congrArg Prod.fst h)
  have h2 : (tokK j).2 = (tokK j').2 := congrArg (fun x : GSem nD τ sig × ℕ × Bool => x.2.2) h
  have h3 : tokK j = tokK j' := Prod.ext (congrArg Prod.snd h1) h2
  have h4 : c = c' := congrArg Prod.fst h1
  rw [h4, tokK_injective h3]
/-- The tokens of the exchange. -/
def ringToks : Finset (GSem nD τ sig × ℕ × Bool) := Finset.univ.map ⟨tokOf, tokOf_injective⟩

/-- The algebra's element at launch: the pipeline's cells and tokens, and the exchange's. -/
def u₀ : UU :=
  (initOf (Pipeline.cells cfgs cellOf_inj) (Pipeline.launchToks cfgs cellOf_inj), initOf ringCells ringToks)

/-- The duty tokens of device `c`'s own cells. -/
def toks (c : Dev nD) : sProp 𝕄 := bigSep Finset.univ fun j : Fin 12 => dutyTok ER (kcell (c, (tokK j).1)) 0 (tokK j).2

/-- What the launch element deals device `c`, -/
def G (c : Dev nD) : sProp 𝕄 :=
  iprop((bigSep Finset.univ fun k : Fin 11 => roundState ER (ringRd m ρ) (kcell (c, k)) 0)
    ∗ (bigSep Finset.univ fun k : Fin 11 => iprop(atPos ER (kcell (c, k)) 0 ∅ 0 ∗ reached ER (kcell (c, k)) 0)) ∗ toks c)
/-- and what the global step makes of it. -/
def G' (c : Dev nD) : sProp 𝕄 := iprop(∃ K, ghost m ρ K c)

/-- The launch element gives every device its cells and the tokens of their duties. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 11 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The counters of the kernel's own semaphores, written out; -/
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0 ∗ semVal (kcell (c, 6)) 0
      ∗ semVal (kcell (c, 7)) 0 ∗ semVal (kcell (c, 8)) 0 ∗ semVal (kcell (c, 9)) 0 ∗ semVal (kcell (c, 10)) 0) := by
  rw [Pipeline.ownSems0_eq_of_list c osem [0, 1, 2, 3, 4, 5, 6, 7, 8, 9] (by decide) (by decide)]; rfl
omit [FloatOps F] in
/-- and that of the barrier. -/
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

omit [FloatOps F] in
/-- The kernel's own ten semaphores and the barrier's are the eleven cells. -/
theorem sems0_eq (c : Dev nD) :
    (bigSep Finset.univ fun k : Fin 11 => semVal (kcell (c, k)) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, bigSep_fin11]

/-- A device's counters and cells become invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 11 => semVal (kcell (c, k)) 0) ∗ bigSep Finset.univ fun k : Fin 11 => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- Two finite conjunctions, either inside the other. -/
theorem bigSep_swap (Φ : Dev nD → Fin 12 → sProp 𝕄) :
    (bigSep Finset.univ fun c => bigSep Finset.univ fun j => Φ c j) = bigSep Finset.univ fun j => bigSep Finset.univ fun c => Φ c j := by
  rw [← bigSep_univ_prod (fun x : Dev nD × Fin 12 => Φ x.1 x.2), ← bigSep_univ_prod (fun x : Fin 12 × Dev nD => Φ x.2 x.1),
    bigSep_univ_equiv (Equiv.prodComm (Fin 12) (Dev nD)) (fun x : Dev nD × Fin 12 => Φ x.1 x.2)]
  rfl

omit [FloatOps F] in
/-- The tokens dealt to the devices that pay them: each duty's along its own permutation of the mesh. -/
theorem toks_around : (bigSep Finset.univ fun c : Dev nD => (toks c : sProp 𝕄)) = bigSep Finset.univ fun c : Dev nD => payToks c := by
  unfold toks payToks
  rw [bigSep_swap]
  conv_rhs => rw [bigSep_swap]
  exact bigSep_congr fun j _ => bigSep_univ_equiv (dest j) (fun c : Dev nD => (dutyTok ER (kcell (c, (tokK j).1)) 0 (tokK j).2 : sProp 𝕄))

/-- The parts of a device make what it starts with. -/
theorem ghost_intro (K : Dev nD × Fin 11 → ℕ) (c : Dev nD) : iprop(records m ρ K ∗ (posns 0 c ∗ payToks c)) ⊢ G' m ρ c := by
  unfold G' ghost
  iintro H
  iexists K
  iexact H

/-- The invariants and tokens of all devices, dealt out again to those who use them. -/
theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 11 => iprop(∃ κ : ℕ, cellInv ER (ringRd m ρ) κ (kcell ck))),
    bigSep_congr (s := Finset.univ) (fun (c : Dev nD) _ => bigSep_sep' Finset.univ (fun k : Fin 11 => (atPos ER (kcell (c, k)) 0 ∅ 0 : sProp 𝕄)) (fun k => reached ER (kcell (c, k)) 0)),
    bigSep_sep', ← bigSep_univ_prod (fun ck : Dev nD × Fin 11 => (reached ER (kcell ck) 0 : sProp 𝕄)), toks_around]
  iintro ⟨HI, ⟨Hat, #HR⟩, Htok⟩
  ihave HK := (BI.bigSep_exists_pi Finset.univ (fun (ck : Dev nD × Fin 11) (κ : ℕ) => (cellInv ER (ringRd m ρ) κ (kcell ck) : sProp 𝕄))) $$ HI
  icases HK with ⟨%K, #HI⟩
  iapply (bigSep_with_persistent (R := records m ρ K) fun c _ => ghost_intro m ρ K c)
  isplitr
  · unfold records; isplitl; · iexact HI
    iexact HR
  · iapply (Entails.of_eq (bigSep_sep' Finset.univ (fun c : Dev nD => (posns 0 c : sProp 𝕄)) payToks).symm)
    isplitl [Hat]; · unfold posns; iexact Hat
    iexact Htok

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credits -/

/-- What others owe each cell of a device at launch. -/
def due : Fin 11 → ℕ := ![2, 0, 0, 0, N8, N8, N19, 0, 0, N8, N8]

/-- Over the mesh, a duty paid along a permutation at cell `j` comes to its amount at every device's cell `j`. -/
theorem sum_tally (e : Dev nD ≃ Dev nD) (j k : Fin 11) (n : ℕ) (c : Dev nD) :
    (Finset.univ.sum fun d : Dev nD => (tallyAt (kcell (e d, j)) () n : CellTallies nD τ sig Unit) (kcell (c, k)) ()) = if k = j then n else 0 := by
  have h (d : Dev nD) : (tallyAt (kcell (e d, j)) () n : CellTallies nD τ sig Unit) (kcell (c, k)) () = if d = e.symm c then (if k = j then n else 0) else 0 := by
    rw [tallyAt_apply]
    by_cases hd : d = e.symm c
    · subst hd
      rw [if_pos rfl, Equiv.apply_symm_apply]
      by_cases hk : k = j
      · subst hk; rw [if_pos ⟨rfl, rfl⟩, if_pos rfl]
      · rw [if_neg (fun h => hk (congrArg Prod.snd (kcell_injective h.1))), if_neg hk]
    · rw [if_neg hd, if_neg]
      intro h
      have hc : c = e d := congrArg Prod.fst (kcell_injective h.1)
      exact hd (by rw [hc]; exact (e.symm_apply_apply d).symm)
  rw [Finset.sum_congr rfl fun d _ => h d, Finset.sum_ite_eq' Finset.univ (e.symm c) fun _ => _, if_pos (Finset.mem_univ _)]

/-- What all devices together owe at a cell. -/
theorem owed_all (c : Dev nD) (k : Fin 11) : (Finset.univ.sum fun d : Dev nD => O₀ d (kcell (c, k)) ()) = due k := by
  have h (d : Dev nD) : O₀ d (kcell (c, k)) () = (tallyAt (kcell (xEquiv d, 10)) () N8 : CellTallies nD τ sig Unit) (kcell (c, k)) ()
      + (tallyAt (kcell (xEquiv d, 9)) () N8 : CellTallies nD τ sig Unit) (kcell (c, k)) ()
      + (tallyAt (kcell (zEquiv d, 6)) () N19 : CellTallies nD τ sig Unit) (kcell (c, k)) ()
      + (tallyAt (kcell (zEquiv d, 5)) () N8 : CellTallies nD τ sig Unit) (kcell (c, k)) ()
      + (tallyAt (kcell (zEquiv d, 4)) () N8 : CellTallies nD τ sig Unit) (kcell (c, k)) ()
      + (tallyAt (kcell (xEquiv d, 0)) () 1 : CellTallies nD τ sig Unit) (kcell (c, k)) ()
      + (tallyAt (kcell (zEquiv d, 0)) () 1 : CellTallies nD τ sig Unit) (kcell (c, k)) () := rfl
  rw [Finset.sum_congr rfl fun d _ => h d]
  simp only [Finset.sum_add_distrib, sum_tally]
  fin_cases k <;> simp [due]

/-- The credit the launch gives at a cell is what is owed there. -/
theorem launch_cell (c : Dev nD) (k : Fin 11) :
    tallyOn (kcell (c, k)) (launchCredit (Pipeline.owing O₀) 0 (kcell (c, k))) = (tallyAt (kcell (c, k)) () (due k) : CellTallies nD τ sig Unit) := by
  unfold tallyAt; refine congrArg _ (Finsupp.ext fun u => ?_); cases u
  rw [Pipeline.launchCredit_owing, Finsupp.single_eq_same, owed_all]

omit [FloatOps F] in
/-- So each device has the credits of its own cells. -/
theorem creds (c : Dev nD) : (Pipeline.launchCred O₀ c : sProp 𝕄) ⊢ credits c := by
  unfold Pipeline.launchCred credits
  refine (bigSep_subset (Finset.subset_univ (Finset.univ.map ⟨csem, csem_injective⟩))).trans ?_
  rw [bigSep_map]
  refine (Entails.of_eq (bigSep_congr (s := Finset.univ) (Ψ := fun k : Fin 11 => (cred (tallyAt (kcell (c, k)) () (due k)) : sProp 𝕄)) fun k _ => congrArg cred (launch_cell c k))).trans ?_
  rw [bigSep_fin11]
  iintro ⟨C0, -, -, -, C4, C5, C6, -, -, C9, C10⟩
  isplitl [C0]; · iexact C0
  isplitl [C4]; · iexact C4
  isplitl [C5]; · iexact C5
  isplitl [C6]; · iexact C6
  isplitl [C9]; · iexact C9
  iexact C10

/-! ## The side conditions of the launch -/

/-- What the launch leaves a device with is what its body starts from; -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- with the scratch buffers it is the state before the body, -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrs
  iintro ⟨Hs, -, Hr⟩
  isplitl [Hs]; · iexact Hs
  iexact Hr

/-- and the state after the body returns the counters and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scrs
  rw [sems0_eq]
  iintro ⟨Hr, HzB, Hz⟩
  isplitl [HzB]; · iexact HzB
  isplitl [Hz]; · iexact Hz
  iexact Hr

/-- The pipeline's own waits are below everything owed. -/
theorem waits (c : Dev nD) : (levAts L lv : sProp 𝕄) ⊢ Pipeline.cellsWaits cfgs (dats m ρ) () 0 c :=
  Pipeline.cellsWaits_intro cfgs (dats m ρ) () 0 c fun w s t =>
    mayWait_of c _ 0 (by
      have h (sm : SemLoc sig) (hs : kidx sm = none) : lv ((c : Thread nD τ), sm) () ≤ 0 := by dsimp only [lv]; rw [hs]
      exact h _ (by fin_cases w <;> fin_cases s <;> decide)) (by
      rcases t with ⟨_ | _, ht⟩
      · exact above_O₀ c
      · exact above_zero 0)

/-! ## The run -/

/-- The final contents of a window's array. -/
def finalA (c : Dev nD) (w : Fin cfg0.W) : Buf (Elt F) ((cfg0.win w).arr.view.loc (c : Thread nD τ)) := (dats m ρ 0 c).arrAt w cfg0.N

/-- Every window's array ends at its final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the 2x2x2 mesh, for any float values, from any memory with zero counters: every weakly fair execution of the
    program on all eight devices terminates, each window's array ends at its computed contents, and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The `x` array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.Exch

end
-- ==== Proof.IdealValue.lean ====
/-
The contents of the result arrays of the reduce-scatter kernel, element by element: every element of a device's result
is its own block's element plus the truncated element of the other block, whichever device it came through.
-/
module

public import proofs.«01_k».proof.Proof.IdealLaunch
public import Idealize.ShloMosaic.Lib.Pipeline.Value
public import Idealize.ShloMosaic.Lib.Pointwise.Index
public import Idealize.ShloMosaic.Lib.Pointwise.ElementwiseCore

@[expose] public section

noncomputable section

namespace Cert.KernelIdeal.Exch

open Cert.KernelIdeal Cert.KernelIdeal.Gen
open Idealize.ShloMosaic
open Idealize.ShloMosaic.TcCoe
open Idealize.SL Idealize.SL.Sem
open Idealize.ShloMosaic.Pipeline (Dat Cfg Window)

/-! ## Reading and writing a rectangle of a whole buffer at an index -/

section Rects
variable {κ : Kind} {Val : EltTy → Type} (b : Ref sig κ) (off size : Fin b.ty.shape.rank → Nat)
  (inb : ∀ a, off a + size a ≤ b.ty.shape.size a) (f : b.ty.Contents Val)

/-- The place of an index of the rectangle, from its coordinates. -/
theorem emb_eq (i : b.ty.shape.Idx) (j : (Rect.unit off size inb).shape.Idx) (h : ∀ a, (i a : Nat) = off a + j a) :
    ((View.whole b).slice (Rect.unit off size inb)).emb j = i :=
  funext fun a => Fin.ext ((ValueKit.view_emb_slice_whole_unit_val b off size inb j a).trans (h a).symm)

/-- Inside the rectangle a store leaves the stored element. -/
theorem write_in (w : (Rect.unit off size inb).shape.Idx → Val b.ty.elt) (i : b.ty.shape.Idx)
    (j : (Rect.unit off size inb).shape.Idx) (h : ∀ a, (i a : Nat) = off a + j a) :
    ((View.whole b).slice (Rect.unit off size inb)).write Val f w Finset.univ i = w j := by
  rw [← emb_eq b off size inb i j h, View.write_emb_of_mem _ _ (Finset.mem_univ j)]
  rfl

/-- Outside it the store leaves the element that was there. -/
theorem write_out (w : (Rect.unit off size inb).shape.Idx → Val b.ty.elt) (i : b.ty.shape.Idx) (a : Fin b.ty.shape.rank)
    (h : (i a : Nat) < off a ∨ off a + size a ≤ (i a : Nat)) :
    ((View.whole b).slice (Rect.unit off size inb)).write Val f w Finset.univ i = f i := by
  refine View.write_of_not_mem _ _ _ fun hm => ?_
  rw [View.setOn_univ, View.set_slice_whole] at hm
  have := (Rect.mem_set_unit (inb := inb)).mp hm a
  omega

/-- A load of the rectangle reads the buffer at the placed index. -/
theorem read_in (i : b.ty.shape.Idx) (j : (Rect.unit off size inb).shape.Idx) (h : ∀ a, (i a : Nat) = off a + j a) :
    (View.whole b).readAt Val (Rect.unit off size inb).toLoadRect f j = f i := by
  rw [← emb_eq b off size inb i j h]
  rfl

end Rects

variable {F : FTy → Type} [FloatOps F]
variable (m : (ℓ : Loc nD τ sig) → Buf (Elt F) ℓ) (ρ : Dev nD → PrngReg)

/-- The staged argument is the argument. -/
theorem xstg_eq (c : Dev nD) : xstg m ρ c = m ((c : Thread nD τ).loc main_arg0) := by
  unfold xstg
  exact Memref.readAt_unit_zero (Elt F) main_arg0 (by decide) _ _

/-! ## The payloads at an index -/

/-- A truncated block of 160 rows; -/
theorem pay32_apply (v : Vec F S1x160x512 .f32) (j : S160x512.Idx) :
    k0_pay3 (k0_pay2 v) j = FloatOps.truncf .bf16 bitsLt_bf16_f32 (v (Fin.cons ⟨0, Nat.one_pos⟩ j)) := by
  unfold k0_pay3 k0_pay2
  simp only [shapeCast_self, truncf_apply]
  exact congrArg _ (shapeCast_dropUnit_apply ![160, 512] _ _ _)
/-- one of 192 rows; -/
theorem pay54_apply (v : Vec F S1x192x512 .f32) (j : S192x512.Idx) :
    k0_pay5 (k0_pay4 v) j = FloatOps.truncf .bf16 bitsLt_bf16_f32 (v (Fin.cons ⟨0, Nat.one_pos⟩ j)) := by
  unfold k0_pay5 k0_pay4
  simp only [shapeCast_self, truncf_apply]
  exact congrArg _ (shapeCast_dropUnit_apply ![192, 512] _ _ _)
/-- the copied half block; -/
theorem pay6_apply (v : Vec F S1x512x512 .f32) (j : S512x512.Idx) : k0_pay6 v j = v (Fin.cons ⟨0, Nat.one_pos⟩ j) :=
  shapeCast_dropUnit_apply ![512, 512] _ _ _
/-- and the three sums. -/
theorem pay1_apply (v : Vec F S160x512 .f32) (w : Vec F S160x512 .bf16) (j : S160x512.Idx) :
    k0_pay1 v w j = FloatOps.addf (v j) (FloatOps.extf .f32 bitsLt_bf16_f32 (w j)) := by
  unfold k0_pay1
  simp only [shapeCast_self, addf_apply, extf_apply]
/-- The same for the device's own 160 rows, -/
theorem pay7_apply (v : Vec F S160x512 .f32) (w : Vec F S160x512 .bf16) (j : S160x512.Idx) :
    k0_pay7 v w j = FloatOps.addf (v j) (FloatOps.extf .f32 bitsLt_bf16_f32 (w j)) := by
  unfold k0_pay7
  simp only [shapeCast_self, addf_apply, extf_apply]
/-- and for the last 192. -/
theorem pay8_apply (v : Vec F S192x512 .f32) (w : Vec F S192x512 .bf16) (j : S192x512.Idx) :
    k0_pay8 v w j = FloatOps.addf (v j) (FloatOps.extf .f32 bitsLt_bf16_f32 (w j)) := by
  unfold k0_pay8
  simp only [shapeCast_self, addf_apply, extf_apply]

/-! ## The buffers at an index -/

/-- A row of the sent buffer is a truncated row of the sender's block, in the partner's half. -/
theorem sendC_apply (d : Dev nD) (i : S352x512.Idx) (r : Fin 512) (l : Fin 1024)
    (hr : ((i 0 : Nat) < 160 ∧ (r : Nat) = 160 * (d.val / 4) + i 0) ∨ (160 ≤ (i 0 : Nat) ∧ (r : Nat) = 160 + i 0))
    (hl : (l : Nat) = 512 - 512 * (d.val % 2) + i 1) :
    sendC m ρ d i = FloatOps.truncf .bf16 bitsLt_bf16_f32 (xstg m ρ d (ix3 0 r l)) := by
  have hi0 : (i 0 : Nat) < 352 := (i 0).isLt
  have hi1 : (i 1 : Nat) < 512 := (i 1).isLt
  unfold sendC
  rcases hr with ⟨h, hr⟩ | ⟨h, hr⟩
  · refine (write_out cc0_scratch0 _ _ _ _ _ i (0 : Fin 2) (.inl h)).trans ?_
    refine (write_in cc0_scratch0 _ _ _ _ _ i (ix2 (n0 := 160) (n1 := 512) ⟨i 0, h⟩ (i 1)) (fun a => match a with
      | ⟨0, _⟩ => (Nat.zero_add _).symm | ⟨1, _⟩ => (Nat.zero_add _).symm)).trans ?_
    refine (pay32_apply _ _).trans (congrArg (FloatOps.truncf .bf16 bitsLt_bf16_f32) ?_)
    refine read_in cc0_stg0_0 _ _ _ _ (ix3 0 r l) _ (fun a => ?_)
    rw [congrFun (k0_off1_eq d) a]
    match a with
    | ⟨0, _⟩ => rfl
    | ⟨1, _⟩ => exact hr
    | ⟨2, _⟩ => exact hl
  · refine (write_in cc0_scratch0 ![160, 0] S192x512.size inb_S352x512_S192x512_160_0 _ _ i (ix2 (n0 := 192) (n1 := 512) ⟨i 0 - 160, by omega⟩ (i 1)) (fun a => match a with
      | ⟨0, _⟩ => (Nat.add_sub_cancel' h).symm | ⟨1, _⟩ => (Nat.zero_add _).symm)).trans ?_
    refine (pay54_apply _ _).trans (congrArg (FloatOps.truncf .bf16 bitsLt_bf16_f32) ?_)
    refine read_in cc0_stg0_0 _ _ _ _ (ix3 0 r l) _ (fun a => ?_)
    rw [congrFun (k0_off2_eq d) a]
    match a with
    | ⟨0, _⟩ => rfl
    | ⟨1, _⟩ => exact hr.trans (show 160 + (i 0 : Nat) = 320 + (i 0 - 160) by omega)
    | ⟨2, _⟩ => exact hl

/-- The result buffer first holds the device's own half. -/
theorem out1_apply (c : Dev nD) (i : S512x512.Idx) (l : Fin 1024) (hl : (l : Nat) = 512 * (c.val % 2) + i 1) :
    out1 m ρ c i = xstg m ρ c (ix3 0 (i 0) l) := by
  unfold out1
  refine (pay6_apply _ _).trans ?_
  refine read_in cc0_stg0_0 _ _ _ _ (ix3 0 (i 0) l) _ (fun a => ?_)
  rw [congrFun (k0_off3_eq c) a]
  match a with
  | ⟨0, _⟩ => rfl
  | ⟨1, _⟩ => exact (Nat.zero_add _).symm
  | ⟨2, _⟩ => exact hl

/-- The partner in `z` has the other `z` and the same `x`; -/
theorem pz_val (c : Dev nD) : (pz c).val % 2 = 1 - c.val % 2 ∧ (pz c).val / 4 = c.val / 4 := by revert c; decide
/-- the partner in `x` the same `z` and the other `x`. -/
theorem px_val (c : Dev nD) : (px c).val % 2 = c.val % 2 ∧ (px c).val / 4 = 1 - c.val / 4 := by revert c; decide

/-- An element of a device's result: its own element plus the truncated element of a device with the other `z`, which
    is the partner `pz c` or, for the forwarded rows, `pz (px c)`. -/
theorem outAt_apply (c : Dev nD) (i : S512x512.Idx) (l : Fin 1024) (hl : (l : Nat) = 512 * (c.val % 2) + i 1) :
    ∃ p : Dev nD, p.val % 2 = 1 - c.val % 2 ∧
      outAt m ρ c i = FloatOps.addf (xstg m ρ c (ix3 0 (i 0) l))
        (FloatOps.extf .f32 bitsLt_bf16_f32 (FloatOps.truncf .bf16 bitsLt_bf16_f32 (xstg m ρ p (ix3 0 (i 0) l)))) := by
  have hi0 : (i 0 : Nat) < 512 := (i 0).isLt
  have hi1 : (i 1 : Nat) < 512 := (i 1).isLt
  have hX : c.val / 4 < 2 := by have := c.isLt; simp only [nD] at this; omega
  have hZ : c.val % 2 < 2 := Nat.mod_lt _ (by decide)
  have e4 : k0_off4 c 0 = 160 * (c.val / 4) := by rw [k0_off4_eq]; rfl
  have e4' : k0_off4 c 1 = 0 := by rw [k0_off4_eq]; rfl
  have e5 : k0_off5 c 0 = 160 - 160 * (c.val / 4) := by rw [k0_off5_eq]; rfl
  have e5' : k0_off5 c 1 = 0 := by rw [k0_off5_eq]; rfl
  rw [← out1_apply m ρ c i l hl]
  by_cases hC : k0_off5 c 0 ≤ (i 0 : Nat) ∧ (i 0 : Nat) < k0_off5 c 0 + 160
  · -- the forwarded rows
    obtain ⟨h1, h2⟩ := hC
    refine ⟨pz (px c), by rw [(pz_val _).1, (px_val _).1], ?_⟩
    have hj : ∀ a : Fin 2, (i a : Nat) = k0_off5 c a + (ix2 (n0 := 160) (n1 := 512) ⟨i 0 - k0_off5 c 0, by omega⟩ (i 1) a : Nat) := fun a => match a with
      | ⟨0, _⟩ => (Nat.add_sub_cancel' h1).symm
      | ⟨1, _⟩ => show (i 1 : Nat) = k0_off5 c 1 + (i 1 : Nat) by omega
    unfold outAt
    refine (write_in cc0_stg1_0 _ _ _ _ _ i _ hj).trans ?_
    refine (pay1_apply _ _ _).trans (congrArg₂ FloatOps.addf ?_ (congrArg (FloatOps.extf .f32 bitsLt_bf16_f32) ?_))
    · refine (read_in cc0_stg1_0 _ _ _ _ i _ hj).trans ?_
      unfold out3 out2
      refine (write_out cc0_stg1_0 _ _ _ _ _ i (0 : Fin 2) (.inl ?_)).trans (write_out cc0_stg1_0 _ _ _ _ _ i (0 : Fin 2) ?_)
      · show (i 0 : Nat) < 320
        omega
      · show (i 0 : Nat) < k0_off4 c 0 ∨ k0_off4 c 0 + 160 ≤ (i 0 : Nat)
        omega
    · refine (read_in cc0_scratch2 _ _ _ _ (ix2 (n0 := 160) (n1 := 512) ⟨i 0 - k0_off5 c 0, by omega⟩ (i 1)) _ (fun a => match a with
        | ⟨0, _⟩ => (Nat.zero_add _).symm | ⟨1, _⟩ => (Nat.zero_add _).symm)).trans ?_
      unfold fwdC
      refine (read_in cc0_scratch1 ![0, 0] S160x512.size inb_S352x512_S160x512_0_0 _ (ix2 (n0 := 352) (n1 := 512) ⟨i 0 - k0_off5 c 0, by omega⟩ (i 1)) _ (fun a => match a with
        | ⟨0, _⟩ => (Nat.zero_add _).symm | ⟨1, _⟩ => (Nat.zero_add _).symm)).trans ?_
      unfold recvC
      refine sendC_apply m ρ _ _ _ _ (.inl ⟨?_, ?_⟩) ?_
      · show (i 0 : Nat) - k0_off5 c 0 < 160
        omega
      · rw [(pz_val _).2, (px_val _).2]
        show (i 0 : Nat) = 160 * (1 - c.val / 4) + (i 0 - k0_off5 c 0)
        omega
      · rw [(pz_val _).1, (px_val _).1]
        show (l : Nat) = 512 - 512 * (1 - c.val % 2) + (i 1 : Nat)
        omega
  · refine ⟨pz c, (pz_val c).1, ?_⟩
    have hC' : (i 0 : Nat) < k0_off5 c 0 ∨ k0_off5 c 0 + 160 ≤ (i 0 : Nat) := by omega
    unfold outAt
    refine (write_out cc0_stg1_0 _ _ _ _ _ i (0 : Fin 2) hC').trans ?_
    by_cases hB : 320 ≤ (i 0 : Nat)
    · -- the last 192 rows
      have hj : ∀ a : Fin 2, (i a : Nat) = (![320, 0] : Fin 2 → Nat) a + (ix2 (n0 := 192) (n1 := 512) ⟨i 0 - 320, by omega⟩ (i 1) a : Nat) := fun a => match a with
        | ⟨0, _⟩ => (Nat.add_sub_cancel' hB).symm
        | ⟨1, _⟩ => (Nat.zero_add _).symm
      unfold out3
      refine (write_in cc0_stg1_0 _ _ _ _ _ i _ hj).trans ?_
      refine (pay8_apply _ _ _).trans (congrArg₂ FloatOps.addf ?_ (congrArg (FloatOps.extf .f32 bitsLt_bf16_f32) ?_))
      · refine (read_in cc0_stg1_0 _ _ _ _ i _ hj).trans ?_
        unfold out2
        refine write_out cc0_stg1_0 _ _ _ _ _ i (0 : Fin 2) (.inr ?_)
        show k0_off4 c 0 + 160 ≤ (i 0 : Nat)
        omega
      · refine (read_in cc0_scratch1 ![160, 0] S192x512.size inb_S352x512_S192x512_160_0 _ (ix2 (n0 := 352) (n1 := 512) ⟨i 0 - 160, by omega⟩ (i 1)) (ix2 (n0 := 192) (n1 := 512) ⟨i 0 - 320, by omega⟩ (i 1)) (fun a => match a with
          | ⟨0, _⟩ => show (i 0 : Nat) - 160 = 160 + (i 0 - 320) by omega
          | ⟨1, _⟩ => (Nat.zero_add _).symm)).trans ?_
        unfold recvC
        refine sendC_apply m ρ _ _ _ _ (.inr ⟨?_, ?_⟩) ?_
        · show 160 ≤ (i 0 : Nat) - 160
          omega
        · show (i 0 : Nat) = 160 + (i 0 - 160)
          omega
        · rw [(pz_val _).1]
          show (l : Nat) = 512 - 512 * (1 - c.val % 2) + (i 1 : Nat)
          omega
    · -- the device's own 160 rows
      have h1 : k0_off4 c 0 ≤ (i 0 : Nat) := by omega
      have hj : ∀ a : Fin 2, (i a : Nat) = k0_off4 c a + (ix2 (n0 := 160) (n1 := 512) ⟨i 0 - k0_off4 c 0, by omega⟩ (i 1) a : Nat) := fun a => match a with
        | ⟨0, _⟩ => (Nat.add_sub_cancel' h1).symm
        | ⟨1, _⟩ => show (i 1 : Nat) = k0_off4 c 1 + (i 1 : Nat) by omega
      unfold out3
      refine (write_out cc0_stg1_0 _ _ _ _ _ i (0 : Fin 2) (.inl (show (i 0 : Nat) < 320 by omega))).trans ?_
      unfold out2
      refine (write_in cc0_stg1_0 _ _ _ _ _ i _ hj).trans ?_
      refine (pay7_apply _ _ _).trans (congrArg₂ FloatOps.addf ?_ (congrArg (FloatOps.extf .f32 bitsLt_bf16_f32) ?_))
      · exact read_in cc0_stg1_0 _ _ _ _ i _ hj
      · refine (read_in cc0_scratch1 ![0, 0] S160x512.size inb_S352x512_S160x512_0_0 _ (ix2 (n0 := 352) (n1 := 512) ⟨i 0 - k0_off4 c 0, by omega⟩ (i 1)) (ix2 (n0 := 160) (n1 := 512) ⟨i 0 - k0_off4 c 0, by omega⟩ (i 1)) (fun a => match a with
          | ⟨0, _⟩ => (Nat.zero_add _).symm | ⟨1, _⟩ => (Nat.zero_add _).symm)).trans ?_
        unfold recvC
        refine sendC_apply m ρ _ _ _ _ (.inl ⟨?_, ?_⟩) ?_
        · show (i 0 : Nat) - k0_off4 c 0 < 160
          omega
        · rw [(pz_val _).2]
          show (i 0 : Nat) = 160 * (c.val / 4) + (i 0 - k0_off4 c 0)
          omega
        · rw [(pz_val _).1]
          show (l : Nat) = 512 - 512 * (1 - c.val % 2) + (i 1 : Nat)
          omega

/-- The result window is flushed once, whole. -/
theorem whole1 : (cfg0.win (1 : Fin 2)).WholeAt t0_0 := ⟨rfl, fun t _ => Subsingleton.elim (α := Fin 1) _ _, fun a => by fin_cases a <;> exact ⟨rfl, rfl⟩⟩

omit [FloatOps F] in
/-- So its array ends at what the body left in its staging buffer, whatever that is. -/
theorem arrAt_out (c : Dev nD) (dat : Dat τ (Elt F) Unit ℕ UU ℕ cfg0 c) (f : (cc0_stg1_0 : Ref sig .tc).ty.Contents (Elt F))
    (h : dat.after (1 : Fin 2) t0_0 = f) : dat.arrAt (1 : Fin 2) cfg0.N = f := by
  refine dat.arrAt_eq_of_after_last (1 : Fin 2) t0_0 whole1 f (fun j => ?_) (Memref.isWhole_whole _)
  rw [h]
  rfl

/-- The body leaves the kernel's result in the result buffer. -/
theorem after_out (c : Dev nD) : (dats m ρ 0 c).after (1 : Fin 2) t0_0 = outAt m ρ c := by
  generalize hg : outAt m ρ c = g
  unfold dats
  dsimp only
  exact hg

/-- And so the result array ends at the kernel's result. -/
theorem finalA_out (c : Dev nD) : finalA m ρ c (1 : Fin 2) = (outAt m ρ c : S512x512.Idx → Elt F .f32) := by
  unfold finalA
  exact arrAt_out c (dats m ρ 0 c) (outAt m ρ c) (after_out m ρ c)

end Cert.KernelIdeal.Exch

end
-- ==== Proof.Sum.lean ====
/-
The equation of the two results over the extended reals: the reference's element is zero plus the sum of the two blocks'
elements, the kernel's is its own block's element plus the other's, and addition commutes.
-/
module

public import proofs.«01_k».proof.Proof.IdealValue
public import proofs.«01_k».proof.Proof.Gen.ReferenceIdeal
public import proofs.«01_k».proof.Proof.Gen.ReferenceIdeal.Run
public import Idealize.ShloMosaic.Lib.Layout
public import Idealize.ShloMosaic.Lib.Pointwise.Reduce
public import Idealize.ShloMosaic.PureOps.Ideal.Laws

@[expose] public section

noncomputable section

namespace Cert.Proof

open Idealize.ShloMosaic Idealize.SL.Sem

/-- The reference's whole result: the sum of the two blocks of `X` along its first axis. -/
def total (X : Cert.ReferenceIdeal.S2x512x1024.Idx → Ideal .f32) : Cert.ReferenceIdeal.S512x1024.Idx → Ideal .f32 :=
  Host.reduceAdd X (constant Cert.ReferenceIdeal.S_ .f32 0x00000000#32)
    Cert.ReferenceIdeal.Gen.reducesTo_S2x512x1024_S512x1024_d0 Cert.ReferenceIdeal.Gen.h_S_

/-- An element of it. -/
theorem total_apply (X : Cert.ReferenceIdeal.S2x512x1024.Idx → Ideal .f32) (j : Cert.ReferenceIdeal.S512x1024.Idx) :
    total X j = (X (ix3 (0 : Fin 2) (j 0) (j 1)) + X (ix3 (1 : Fin 2) (j 0) (j 1)) : EReal) := by
  refine (Ideal.hostReduceAdd_r3_a0 _ X (Ideal.ofBits .f32 0x00000000#32) j).trans ?_
  rw [Ideal.ofBits_zero_f32, zero_add, Fin.sum_univ_two]
  rfl

/-- The block numbers of a device are its `z`. -/
theorem block_z3 : ∀ c : Fin 8, ((Layout.meshBlock [2, 2, 2] (![[2], [], []] : Fin 3 → List Nat) c) (0 : Fin 3) : Nat) = c.val % 2 := by decide
/-- For the result likewise. -/
theorem block_z2 : ∀ c : Fin 8, ((Layout.meshBlock [2, 2, 2] (![[], [2]] : Fin 2 → List Nat) c) (1 : Fin 2) : Nat) = c.val % 2 := by decide

/-- A device's part of the argument is the block numbered by its `z`; -/
theorem arg_block (c : Fin 8) (X : Cert.ReferenceIdeal.S2x512x1024.Idx → Ideal .f32) (r : Fin 512) (l : Fin 1024) (k : Fin 2)
    (hk : (k : Nat) = c.val % 2) :
    (Layout.blockN ⟨3, ![1, 512, 1024]⟩ ⟨3, ![2, 512, 1024]⟩ (Layout.meshBlock [2, 2, 2] ![[2], [], []] c) X) (ix3 (0 : Fin 1) r l)
      = X (ix3 k r l) := by
  rw [Layout.blockN_apply]
  congr 1
  funext a
  apply Fin.ext
  rw [Layout.TilesN.idx_val]
  have h0 := block_z3 c
  match a with
  | ⟨0, _⟩ =>
    show ((Layout.meshBlock [2, 2, 2] (![[2], [], []] : Fin 3 → List Nat) c) (0 : Fin 3) : Nat) * 1 + 0 = (k : Nat)
    rw [h0]; omega
  | ⟨1, _⟩ => exact (show 0 * 512 + r.val = r.val by omega)
  | ⟨2, _⟩ => exact (show 0 * 1024 + l.val = l.val by omega)

/-- and its part of the result the columns from 512 times its `z` on. -/
theorem res_block (c : Fin 8) (Y : Cert.ReferenceIdeal.S512x1024.Idx → Ideal .f32) (i : Cert.KernelIdeal.S512x512.Idx) (l : Fin 1024)
    (hl : (l : Nat) = 512 * (c.val % 2) + i 1) :
    (Layout.blockN ⟨2, ![512, 512]⟩ ⟨2, ![512, 1024]⟩ (Layout.meshBlock [2, 2, 2] ![[], [2]] c) Y) i
      = Y (ix2 (n0 := 512) (n1 := 1024) (i 0) l) := by
  rw [Layout.blockN_apply]
  congr 1
  funext a
  apply Fin.ext
  rw [Layout.TilesN.idx_val]
  have h1 := block_z2 c
  match a with
  | ⟨0, _⟩ => exact (show 0 * 512 + (i 0).val = (i 0).val by omega)
  | ⟨1, _⟩ =>
    show ((Layout.meshBlock [2, 2, 2] (![[], [2]] : Fin 2 → List Nat) c) (1 : Fin 2) : Nat) * 512 + (i 1).val = (l : Nat)
    rw [h1, hl]; omega

/-- Every device's result is its part of the reference's. -/
theorem out_eq (m : (ℓ : Loc Cert.KernelIdeal.nD Cert.KernelIdeal.τ Cert.KernelIdeal.sig) → Buf (Elt Ideal) ℓ)
    (ρ : Dev Cert.KernelIdeal.nD → PrngReg) (X : Cert.ReferenceIdeal.S2x512x1024.Idx → Ideal .f32)
    (hX : ∀ c : Dev Cert.KernelIdeal.nD, m ((c.tc : Thread Cert.KernelIdeal.nD Cert.KernelIdeal.τ).loc Cert.KernelIdeal.main_arg0)
      = Layout.blockN ⟨3, ![1, 512, 1024]⟩ ⟨3, ![2, 512, 1024]⟩ (Layout.meshBlock [2, 2, 2] ![[2], [], []] c) X)
    (c : Dev Cert.KernelIdeal.nD) :
    Cert.KernelIdeal.Exch.outAt (F := Ideal) m ρ c
      = Layout.blockN ⟨2, ![512, 512]⟩ ⟨2, ![512, 1024]⟩ (Layout.meshBlock [2, 2, 2] ![[], [2]] c) (total X) := by
  funext i
  have hi1 : (i 1 : Nat) < 512 := (i 1).isLt
  have hZ : c.val % 2 < 2 := Nat.mod_lt _ (by decide)
  obtain ⟨l, hl⟩ : ∃ l : Fin 1024, (l : Nat) = 512 * (c.val % 2) + (i 1 : Nat) := ⟨⟨512 * (c.val % 2) + (i 1 : Nat), by omega⟩, rfl⟩
  have hx : ∀ (d : Dev Cert.KernelIdeal.nD) (k : Fin 2), (k : Nat) = d.val % 2 →
      Cert.KernelIdeal.Exch.xstg (F := Ideal) m ρ d (ix3 (0 : Fin 1) (i 0) l) = X (ix3 k (i 0) l) := fun d k hk => by
    rw [Cert.KernelIdeal.Exch.xstg_eq, hX d]
    exact arg_block d X (i 0) l k hk
  obtain ⟨p, hp, ho⟩ := Cert.KernelIdeal.Exch.outAt_apply (F := Ideal) m ρ c i l hl
  rw [ho, res_block c (total X) i l hl, total_apply]
  show @HAdd.hAdd EReal EReal EReal _ (Cert.KernelIdeal.Exch.xstg (F := Ideal) m ρ c (ix3 (0 : Fin 1) (i 0) l))
      (Cert.KernelIdeal.Exch.xstg (F := Ideal) m ρ p (ix3 (0 : Fin 1) (i 0) l))
    = X (ix3 (0 : Fin 2) (i 0) l) + X (ix3 (1 : Fin 2) (i 0) l)
  rcases (show c.val % 2 = 0 ∨ c.val % 2 = 1 by omega) with h | h
  · rw [hx c 0 h.symm, hx p 1 (by rw [hp, h]; rfl)]
  · rw [hx c 1 h.symm, hx p 0 (by rw [hp, h]; rfl)]
    exact add_comm _ _

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.BitsLaunch
public import proofs.«01_k».proof.Proof.IdealLaunch
public import proofs.«01_k».proof.Proof.IdealValue
public import proofs.«01_k».proof.Proof.Sum
public import Idealize.ShloMosaic.Adequacy
public import Idealize.ShloMosaic.Init

@[expose] public section

noncomputable section

namespace Cert.Proof

open Idealize.ShloMosaic Idealize.SL.Sem

/-- The kernel terminates on every device with its argument unchanged and every counter zero, at the device's own floats; -/
theorem frame_kernel : Cert.quiescent_Kernel := fun m ρ _ =>
  (θ_run Cert.Kernel.defs _ _).mono (fun _ h => ⟨fun c => (h.1 c (0 : Fin 2)).trans (Cert.Kernel.Exch.finalA_x m ρ c), h.2⟩)
    (Cert.Kernel.Exch.run_main (F := Bits) m ρ)

/-- and over the extended reals. -/
theorem frame_ideal : Cert.quiescent_KernelIdeal := fun m ρ _ =>
  (θ_run Cert.KernelIdeal.defs _ _).mono (fun _ h => ⟨fun c => (h.1 c (0 : Fin 2)).trans (Cert.KernelIdeal.Exch.finalA_x m ρ c), h.2⟩)
    (Cert.KernelIdeal.Exch.run_main (F := Ideal) m ρ)

/-- The reference terminates with its argument unchanged; it has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Over the extended reals, the kernel's results on the eight devices are the parts of the reference's result. -/
theorem algebraic : Cert.algebraic_KernelIdeal_ReferenceIdeal := by
  intro m ρ m' ρ' _ hagree
  refine ⟨total (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono (fun _ h c =>
      ⟨(h.1 c (1 : Fin 2)).trans ((Cert.KernelIdeal.Exch.finalA_out m ρ c).trans (out_eq m ρ _ hagree c)),
        (h.1 c (0 : Fin 2)).trans (Cert.KernelIdeal.Exch.finalA_x m ρ c)⟩)
      (Cert.KernelIdeal.Exch.run_main (F := Ideal) m ρ)
  · exact (θ_run Cert.ReferenceIdeal.defs _ _).mono (fun _ h => h 0) (Cert.ReferenceIdeal.Value.run (F := Ideal) m' ρ')

/-- All five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
